-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_some_slot_is_used : Cert.Pre_some_slot_is_used.Facts] (m : (ℓ : Loc Cert.Kernel2.nD Cert.Kernel2.τ Cert.Kernel2.sig) → Buf (Elt Bits) ℓ) : Prop :=
  ∀ c : Dev Cert.Kernel2.nD,
    (Cert.Pre_some_slot_is_used.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_some_slot_is_used : Cert.Pre_some_slot_is_used.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_some_slot_is_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_some_slot_is_used : Cert.Pre_some_slot_is_used.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_some_slot_is_used.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_some_slot_is_used : Cert.Pre_some_slot_is_used.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_some_slot_is_used : Cert.Pre_some_slot_is_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_some_slot_is_used : Cert.Pre_some_slot_is_used.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_some_slot_is_used : Cert.Pre_some_slot_is_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v256) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_some_slot_is_used : Cert.Pre_some_slot_is_used.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_some_slot_is_used := hPre_some_slot_is_used)
    ∧ quiescent_Kernel2Ideal (hKernel2Ideal := hKernel2Ideal) (hPre_some_slot_is_used := hPre_some_slot_is_used)
    ∧ quiescent_Reference2Ideal (hReference2Ideal := hReference2Ideal) (hPre_some_slot_is_used := hPre_some_slot_is_used)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_some_slot_is_used := hPre_some_slot_is_used)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_some_slot_is_used.lean ====
abbrev S1x128 : Shape := ⟨2, ![1, 128]⟩
abbrev S655360x128 : Shape := ⟨2, ![655360, 128]⟩
abbrev S2x32x1024x512 : Shape := ⟨4, ![2, 32, 1024, 512]⟩
abbrev S2x32x512x1024 : Shape := ⟨4, ![2, 32, 512, 1024]⟩
abbrev S1x32 : Shape := ⟨2, ![1, 32]⟩
abbrev S32 : Shape := ⟨1, ![32]⟩
abbrev S_ : Shape := ⟨0, ![]⟩
abbrev S1 : Shape := ⟨1, ![1]⟩

class Facts : Prop where
  slices_S1x128_S1x32_0_0 : S1x128.Slices ![0, 0] S1x32
  shapeCasts_S1x32_S32 : S1x32.ShapeCasts S32
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  shapeCasts_S1_S_ : S1.ShapeCasts S_

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_where_2 {F : FTy → Type} [FloatOps F] (arg0 : IVec S_ 1) (arg1 : IVec S_ 32) (arg2 : IVec S_ 32) : IVec S_ 32 :=
  let v0 : IVec S_ 32 := select arg0 arg1 arg2
  v0

def fn_floor_divide_1 {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where_2 (F := F) v7 v8 v1
  v9

def fn {F : FTy → Type} [FloatOps F] (main_arg0 : FVec F S1x128 .f32) (main_arg1 : FVec F S655360x128 .f32) (main_arg2 : FVec F S2x32x1024x512 .f32) (main_arg3 : FVec F S2x32x1024x512 .f32) (main_arg4 : FVec F S2x32x512x1024 .f32) : IVec S_ 1 :=
  let main_v0 : FVec F S1x32 .f32 := (extractStridedSlice S1x32 ![0, 0] · slices_S1x128_S1x32_0_0) main_arg0
  let main_v1 : FVec F S32 .f32 := shapeCast S32 main_v0 shapeCasts_S1x32_S32
  let main_v2 : IVec S32 32 := fptosi 32 main_v1
  let main_c : IVec S_ 32 := constantI S_ 32 512#32
  let main_v3 : IVec S32 32 := broadcastInDim S32 ![] bcast_S_S32 main_c
  let main_v4 : IVec S32 32 := addi main_v2 main_v3
  let main_c_0 : IVec S_ 32 := constantI S_ 32 1#32
  let main_v5 : IVec S32 32 := broadcastInDim S32 ![] bcast_S_S32 main_c_0
  let main_v6 : IVec S32 32 := subi main_v4 main_v5
  let main_c_1 : IVec S_ 32 := constantI S_ 32 512#32
  let main_v7 : IVec S32 32 := fn_floor_divide (F := F) main_v6 main_c_1
  let main_c_2 : IVec S_ 32 := constantI S_ 32 512#32
  let main_v8 : IVec S32 32 := broadcastInDim S32 ![] bcast_S_S32 main_c_2
  let main_v9 : IVec S32 32 := muli main_v7 main_v8
  let main_v10 : IVec S32 32 := fn_cumsum (F := F) main_v9
  let main_v11 : IVec S1 32 := (extractStridedSlice S1 ![31] · slices_S32_S1_31) main_v10
  let main_v12 : IVec S_ 32 := shapeCast S_ main_v11 shapeCasts_S1_S_
  let main_c_3 : IVec S_ 32 := constantI S_ 32 512#32
  let main_v13 : IVec S_ 32 := fn_floor_divide_1 (F := F) main_v12 main_c_3
  let main_c_4 : IVec S_ 32 := constantI S_ 32 1#32
  let main_v14 : IVec S_ 1 := cmpi .sge main_v13 main_c_4
  main_v14
-- ==== Kernel.lean ====
abbrev S32768x1024 : Shape := ⟨2, ![32768, 1024]⟩
abbrev S1024 : Shape := ⟨1, ![1024]⟩
abbrev S1024x3080 : Shape := ⟨2, ![1024, 3080]⟩
abbrev S1x1024 : Shape := ⟨2, ![1, 1024]⟩
abbrev S1024x1536 : Shape := ⟨2, ![1024, 1536]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1024x1024 : Shape := ⟨2, ![1024, 1024]⟩
abbrev S32768x1536 : Shape := ⟨2, ![32768, 1536]⟩
abbrev S32768x512 : Shape := ⟨2, ![32768, 512]⟩
abbrev S32768x128 : Shape := ⟨2, ![32768, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3080, .f32⟩
  | .hbm, ⟨3, _⟩ => ⟨S1x1024, .f32⟩
  | .hbm, ⟨4, _⟩ => ⟨S1024x1536, .f32⟩
  | .hbm, ⟨5, _⟩ => ⟨S1024x1536, .bf16⟩
  | .hbm, ⟨6, _⟩ => ⟨S1024x512, .f32⟩
  | .hbm, ⟨7, _⟩ => ⟨S1024x512, .bf16⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x1024, .f32⟩
  | .hbm, ⟨14, _⟩ => ⟨S1024x1024, .bf16⟩
  | .hbm, ⟨15, _⟩ => ⟨S32768x1536, .f32⟩
  | .hbm, ⟨16, _⟩ => ⟨S32768x512, .f32⟩
  | .hbm, ⟨17, _⟩ => ⟨S32768x128, .f32⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x512, .bf16⟩
  | .local _ .vmem, ⟨5, _⟩ => ⟨S1024x128, .bf16⟩
  | .local _ .vmem, ⟨6, _⟩ => ⟨S1024x1024, .bf16⟩
  | .local _ .vmem, ⟨7, _⟩ => ⟨S512x1536, .f32⟩
  | .local _ .vmem, ⟨8, _⟩ => ⟨S512x1536, .f32⟩
  | .local _ .vmem, ⟨9, _⟩ => ⟨S512x512, .f32⟩
  | .local _ .vmem, ⟨10, _⟩ => ⟨S512x512, .f32⟩
  | .local _ .vmem, ⟨11, _⟩ => ⟨S512x128, .f32⟩
  | .local _ .vmem, ⟨12, _⟩ => ⟨S512x128, .f32⟩
  | .local _ .vmem, ⟨13, _⟩ => ⟨S512x1024, .f32⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S32768x1024 : Shape := ⟨2, ![32768, 1024]⟩
abbrev S1024 : Shape := ⟨1, ![1024]⟩
abbrev S1024x3080 : Shape := ⟨2, ![1024, 3080]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3080 : Shape := ⟨2, ![32768, 3080]⟩
abbrev S32768x8 : Shape := ⟨2, ![32768, 8]⟩
abbrev S32768x128 : Shape := ⟨2, ![32768, 128]⟩
abbrev S32768x1536 : Shape := ⟨2, ![32768, 1536]⟩
abbrev S32768x512 : Shape := ⟨2, ![32768, 512]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3080, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3080, .f32⟩
  | .hbm, ⟨20, _⟩ => ⟨S32768x8, .f32⟩
  | .hbm, ⟨21, _⟩ => ⟨S_, .i32⟩
  | .hbm, ⟨22, _⟩ => ⟨S_, .f32⟩
  | .hbm, ⟨23, _⟩ => ⟨S32768x128, .f32⟩
  | .hbm, ⟨24, _⟩ => ⟨S32768x1536, .f32⟩
  | .hbm, ⟨25, _⟩ => ⟨S32768x512, .f32⟩
  | .hbm, ⟨26, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel2.lean ====
abbrev S1x128 : Shape := ⟨2, ![1, 128]⟩
abbrev S655360x128 : Shape := ⟨2, ![655360, 128]⟩
abbrev S2x32x1024x512 : Shape := ⟨4, ![2, 32, 1024, 512]⟩
abbrev S2x32x512x1024 : Shape := ⟨4, ![2, 32, 512, 1024]⟩
abbrev S1x32 : Shape := ⟨2, ![1, 32]⟩
abbrev S32 : Shape := ⟨1, ![32]⟩
abbrev S_ : Shape := ⟨0, ![]⟩
abbrev S1 : Shape := ⟨1, ![1]⟩
abbrev S160 : Shape := ⟨1, ![160]⟩
abbrev S160x1 : Shape := ⟨2, ![160, 1]⟩
abbrev S160x32 : Shape := ⟨2, ![160, 32]⟩
abbrev S4096x128 : Shape := ⟨2, ![4096, 128]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S512x128 : Shape := ⟨2, ![512, 128]⟩
abbrev S512x512 : Shape := ⟨2, ![512, 512]⟩

abbrev nBuf : Space → Nat
  | .hbm => 72
  | .vmem => 13
  | .smem => 2
  | _ => 0

abbrev bufTy : (tb : Table) → Fin (tcTables nBuf tb) → BufTy
  | .hbm, ⟨0, _⟩ => ⟨S1x128, .f32⟩
  | .hbm, ⟨1, _⟩ => ⟨S655360x128, .f32⟩
  | .hbm, ⟨2, _⟩ => ⟨S2x32x1024x512, .f32⟩
  | .hbm, ⟨3, _⟩ => ⟨S2x32x1024x512, .f32⟩
  | .hbm, ⟨4, _⟩ => ⟨S2x32x512x1024, .f32⟩
  | .hbm, ⟨5, _⟩ => ⟨S1x32, .f32⟩
  | .hbm, ⟨6, _⟩ => ⟨S32, .f32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S1, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S160, .i32⟩
  | .hbm, ⟨54, _⟩ => ⟨S_, .i32⟩
  | .hbm, ⟨55, _⟩ => ⟨S_, .i32⟩
  | .hbm, ⟨56, _⟩ => ⟨S160, .i32⟩
  | .hbm, ⟨57, _⟩ => ⟨S160, .i32⟩
  | .hbm, ⟨58, _⟩ => ⟨S_, .i32⟩
  | .hbm, ⟨59, _⟩ => ⟨S160, .i32⟩
  | .hbm, ⟨60, _⟩ => ⟨S160, .i32⟩
  | .hbm, ⟨61, _⟩ => ⟨S1x32, .i32⟩
  | .hbm, ⟨62, _⟩ => ⟨S160x1, .i32⟩
  | .hbm, ⟨63, _⟩ => ⟨S160x32, .i32⟩
  | .hbm, ⟨64, _⟩ => ⟨S160x32, .i32⟩
  | .hbm, ⟨65, _⟩ => ⟨S160x32, .i1⟩
  | .hbm, ⟨66, _⟩ => ⟨S160x32, .i32⟩
  | .hbm, ⟨67, _⟩ => ⟨S_, .i32⟩
  | .hbm, ⟨68, _⟩ => ⟨S160, .i32⟩
  | .hbm, ⟨69, _⟩ => ⟨S_, .i32⟩
  | .hbm, ⟨70, _⟩ => ⟨S160, .i32⟩
  | .hbm, ⟨71, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S4096x128, .f32⟩
  | .local _ .vmem, ⟨9, _⟩ => ⟨S4096x128, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S160, .i32⟩
  | .local _ .smem, ⟨1, _⟩ => ⟨S1, .i32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_call1_call0_c : Ref sig .tc := ⟨.hbm, 35, rfl⟩
abbrev main_call1_call0_v0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_3 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c : Ref sig .tc := ⟨.hbm, 47, rfl⟩
abbrev main_call2_v6 : Ref sig .tc := ⟨.hbm, 48, rfl⟩
abbrev main_call2_v7 : Ref sig .tc := ⟨.hbm, 49, rfl⟩
abbrev main_call2_c_0 : Ref sig .tc := ⟨.hbm, 50, rfl⟩
abbrev main_call2_v8 : Ref sig .tc := ⟨.hbm, 51, rfl⟩
abbrev main_v13 : Ref sig .tc := ⟨.hbm, 52, rfl⟩
abbrev main_v14 : Ref sig .tc := ⟨.hbm, 53, rfl⟩
abbrev main_c_4 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_5 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_c_6 : Ref sig .tc := ⟨.hbm, 67, rfl⟩
abbrev main_v26 : Ref sig .tc := ⟨.hbm, 68, rfl⟩
abbrev main_c_7 : Ref sig .tc := ⟨.hbm, 69, rfl⟩
abbrev main_v27 : Ref sig .tc := ⟨.hbm, 70, rfl⟩
abbrev main_v30 : Ref sig .tc := ⟨.hbm, 71, rfl⟩
abbrev main_v28 : Ref sig .tc := ⟨.smem, 0, rfl⟩
abbrev main_v29 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_v28.idx, main_v29.idx], fun | 0 => main_v28.names | 1 => main_v29.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S1x128 : Shape := ⟨2, ![1, 128]⟩
abbrev S655360x128 : Shape := ⟨2, ![655360, 128]⟩
abbrev S2x32x1024x512 : Shape := ⟨4, ![2, 32, 1024, 512]⟩
abbrev S2x32x512x1024 : Shape := ⟨4, ![2, 32, 512, 1024]⟩
abbrev S1x32 : Shape := ⟨2, ![1, 32]⟩
abbrev S32 : Shape := ⟨1, ![32]⟩
abbrev S_ : Shape := ⟨0, ![]⟩
abbrev S160 : Shape := ⟨1, ![160]⟩
abbrev S160x1 : Shape := ⟨2, ![160, 1]⟩
abbrev S160x32 : Shape := ⟨2, ![160, 32]⟩
abbrev S160x512x1024 : Shape := ⟨3, ![160, 512, 1024]⟩
abbrev S1x32x1024x512 : Shape := ⟨4, ![1, 32, 1024, 512]⟩
abbrev S32x1024x512 : Shape := ⟨3, ![32, 1024, 512]⟩
abbrev S160x1024x512 : Shape := ⟨3, ![160, 1024, 512]⟩
abbrev S160x512x512 : Shape := ⟨3, ![160, 512, 512]⟩
abbrev S1x32x512x1024 : Shape := ⟨4, ![1, 32, 512, 1024]⟩
abbrev S32x512x1024 : Shape := ⟨3, ![32, 512, 1024]⟩
abbrev S1 : Shape := ⟨1, ![1]⟩
abbrev S160x1x1 : Shape := ⟨3, ![160, 1, 1]⟩

abbrev nBuf : Space → Nat
  | .hbm => 125
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S655360x128, .f32⟩
  | .hbm, ⟨2, _⟩ => ⟨S2x32x1024x512, .f32⟩
  | .hbm, ⟨3, _⟩ => ⟨S2x32x1024x512, .f32⟩
  | .hbm, ⟨4, _⟩ => ⟨S2x32x512x1024, .f32⟩
  | .hbm, ⟨5, _⟩ => ⟨S1x32, .f32⟩
  | .hbm, ⟨6, _⟩ => ⟨S32, .f32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S160, .i32⟩
  | .hbm, ⟨39, _⟩ => ⟨S_, .i32⟩
  | .hbm, ⟨40, _⟩ => ⟨S160, .i32⟩
  | .hbm, ⟨41, _⟩ => ⟨S160, .i32⟩
  | .hbm, ⟨42, _⟩ => ⟨S1x32, .i32⟩
  | .hbm, ⟨43, _⟩ => ⟨S160x1, .i32⟩
  | .hbm, ⟨44, _⟩ => ⟨S160x32, .i32⟩
  | .hbm, ⟨45, _⟩ => ⟨S160x32, .i32⟩
  | .hbm, ⟨46, _⟩ => ⟨S160x32, .i1⟩
  | .hbm, ⟨47, _⟩ => ⟨S160x32, .i32⟩
  | .hbm, ⟨48, _⟩ => ⟨S_, .i32⟩
  | .hbm, ⟨49, _⟩ => ⟨S160, .i32⟩
  | .hbm, ⟨50, _⟩ => ⟨S_, .i32⟩
  | .hbm, ⟨51, _⟩ => ⟨S160, .i32⟩
  | .hbm, ⟨52, _⟩ => ⟨S160, .i32⟩
  | .hbm, ⟨53, _⟩ => ⟨S160x512x1024, .f32⟩
  | .hbm, ⟨54, _⟩ => ⟨S1x32x1024x512, .f32⟩
  | .hbm, ⟨55, _⟩ => ⟨S32x1024x512, .f32⟩
  | .hbm, ⟨56, _⟩ => ⟨S_, .i32⟩
  | .hbm, ⟨57, _⟩ => ⟨S160, .i32⟩
  | .hbm, ⟨58, _⟩ => ⟨S160, .i1⟩
  | .hbm, ⟨59, _⟩ => ⟨S_, .i32⟩
  | .hbm, ⟨60, _⟩ => ⟨S160, .i32⟩
  | .hbm, ⟨61, _⟩ => ⟨S160, .i32⟩
  | .hbm, ⟨62, _⟩ => ⟨S160, .i32⟩
  | .hbm, ⟨63, _⟩ => ⟨S160x1, .i32⟩
  | .hbm, ⟨64, _⟩ => ⟨S160x1024x512, .f32⟩
  | .hbm, ⟨65, _⟩ => ⟨S160x512x512, .f32⟩
  | .hbm, ⟨66, _⟩ => ⟨S1x32x1024x512, .f32⟩
  | .hbm, ⟨67, _⟩ => ⟨S32x1024x512, .f32⟩
  | .hbm, ⟨68, _⟩ => ⟨S_, .i32⟩
  | .hbm, ⟨69, _⟩ => ⟨S160, .i32⟩
  | .hbm, ⟨70, _⟩ => ⟨S160, .i1⟩
  | .hbm, ⟨71, _⟩ => ⟨S_, .i32⟩
  | .hbm, ⟨72, _⟩ => ⟨S160, .i32⟩
  | .hbm, ⟨73, _⟩ => ⟨S160, .i32⟩
  | .hbm, ⟨74, _⟩ => ⟨S160, .i32⟩
  | .hbm, ⟨75, _⟩ => ⟨S160x1, .i32⟩
  | .hbm, ⟨76, _⟩ => ⟨S160x1024x512, .f32⟩
  | .hbm, ⟨77, _⟩ => ⟨S160x512x512, .f32⟩
  | .hbm, ⟨78, _⟩ => ⟨S160x512x512, .f32⟩
  | .hbm, ⟨79, _⟩ => ⟨S160x512x512, .f32⟩
  | .hbm, ⟨80, _⟩ => ⟨S_, .f32⟩
  | .hbm, ⟨81, _⟩ => ⟨S160x512x512, .f32⟩
  | .hbm, ⟨82, _⟩ => ⟨S160x512x512, .f32⟩
  | .hbm, ⟨83, _⟩ => ⟨S_, .f32⟩
  | .hbm, ⟨84, _⟩ => ⟨S160x512x512, .f32⟩
  | .hbm, ⟨85, _⟩ => ⟨S160x512x512, .f32⟩
  | .hbm, ⟨86, _⟩ => ⟨S160x512x512, .f32⟩
  | .hbm, ⟨87, _⟩ => ⟨S160x512x512, .f32⟩
  | .hbm, ⟨88, _⟩ => ⟨S1x32x512x1024, .f32⟩
  | .hbm, ⟨89, _⟩ => ⟨S32x512x1024, .f32⟩
  | .hbm, ⟨90, _⟩ => ⟨S_, .i32⟩
  | .hbm, ⟨91, _⟩ => ⟨S160, .i32⟩
  | .hbm, ⟨92, _⟩ => ⟨S160, .i1⟩
  | .hbm, ⟨93, _⟩ => ⟨S_, .i32⟩
  | .hbm, ⟨94, _⟩ => ⟨S160, .i32⟩
  | .hbm, ⟨95, _⟩ => ⟨S160, .i32⟩
  | .hbm, ⟨96, _⟩ => ⟨S160, .i32⟩
  | .hbm, ⟨97, _⟩ => ⟨S160x1, .i32⟩
  | .hbm, ⟨98, _⟩ => ⟨S160x512x1024, .f32⟩
  | .hbm, ⟨99, _⟩ => ⟨S160x512x1024, .f32⟩
  | .hbm, ⟨100, _⟩ => ⟨S160, .i32⟩
  | .hbm, ⟨101, _⟩ => ⟨S1, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i1⟩
  | .hbm, ⟨109, _⟩ => ⟨S_, .i32⟩
  | .hbm, ⟨110, _⟩ => ⟨S_, .i32⟩
  | .hbm, ⟨111, _⟩ => ⟨S_, .i1⟩
  | .hbm, ⟨112, _⟩ => ⟨S_, .i1⟩
  | .hbm, ⟨113, _⟩ => ⟨S_, .i32⟩
  | .hbm, ⟨114, _⟩ => ⟨S_, .i32⟩
  | .hbm, ⟨115, _⟩ => ⟨S_, .i32⟩
  | .hbm, ⟨116, _⟩ => ⟨S160, .i32⟩
  | .hbm, ⟨117, _⟩ => ⟨S160, .i1⟩
  | .hbm, ⟨118, _⟩ => ⟨S160x1x1, .i1⟩
  | .hbm, ⟨119, _⟩ => ⟨S_, .f32⟩
  | .hbm, ⟨120, _⟩ => ⟨S_, .f32⟩
  | .hbm, ⟨121, _⟩ => ⟨S160x512x1024, .i1⟩
  | .hbm, ⟨122, _⟩ => ⟨S160x512x1024, .f32⟩
  | .hbm, ⟨123, _⟩ => ⟨S160x512x1024, .f32⟩
  | .hbm, ⟨124, _⟩ => ⟨S655360x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_call1_call0_c : Ref sig .tc := ⟨.hbm, 35, rfl⟩
abbrev main_call1_call0_v0 : Ref sig .tc := ⟨.hbm, 36, rfl⟩
abbrev main_v10 : Ref sig .tc := ⟨.hbm, 37, rfl⟩
abbrev main_v11 : Ref sig .tc := ⟨.hbm, 38, rfl⟩
abbrev main_c_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_6 : Ref sig .tc := ⟨.hbm, 56, rfl⟩
abbrev main_v26 : Ref sig .tc := ⟨.hbm, 57, rfl⟩
abbrev main_v27 : Ref sig .tc := ⟨.hbm, 58, rfl⟩
abbrev main_c_7 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_8 : Ref sig .tc := ⟨.hbm, 68, rfl⟩
abbrev main_v36 : Ref sig .tc := ⟨.hbm, 69, rfl⟩
abbrev main_v37 : Ref sig .tc := ⟨.hbm, 70, rfl⟩
abbrev main_c_9 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_call2_v0 : Ref sig .tc := ⟨.hbm, 78, rfl⟩
abbrev main_call2_v1 : Ref sig .tc := ⟨.hbm, 79, rfl⟩
abbrev main_call2_cst : Ref sig .tc := ⟨.hbm, 80, rfl⟩
abbrev main_call2_v2 : Ref sig .tc := ⟨.hbm, 81, rfl⟩
abbrev main_call2_v3 : Ref sig .tc := ⟨.hbm, 82, rfl⟩
abbrev main_call2_cst_0 : Ref sig .tc := ⟨.hbm, 83, rfl⟩
abbrev main_call2_v4 : Ref sig .tc := ⟨.hbm, 84, rfl⟩
abbrev main_call2_v5 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_10 : Ref sig .tc := ⟨.hbm, 90, rfl⟩
abbrev main_v48 : Ref sig .tc := ⟨.hbm, 91, rfl⟩
abbrev main_v49 : Ref sig .tc := ⟨.hbm, 92, rfl⟩
abbrev main_c_11 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c_12 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_c : Ref sig .tc := ⟨.hbm, 110, rfl⟩
abbrev main_call3_v6 : Ref sig .tc := ⟨.hbm, 111, rfl⟩
abbrev main_call3_v7 : Ref sig .tc := ⟨.hbm, 112, rfl⟩
abbrev main_call3_c_0 : Ref sig .tc := ⟨.hbm, 113, rfl⟩
abbrev main_call3_v8 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_cst : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v63 : Ref sig .tc := ⟨.hbm, 123, rfl⟩
abbrev main_v64 : Ref sig .tc := ⟨.hbm, 124, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x96 : Shape := ⟨2, ![1024, 96]⟩
abbrev S1024x128 : Shape := ⟨2, ![1024, 128]⟩
abbrev S1x32 : Shape := ⟨2, ![1, 32]⟩
abbrev S1x4 : Shape := ⟨2, ![1, 4]⟩
abbrev S1x96 : Shape := ⟨2, ![1, 96]⟩
abbrev S1x128 : Shape := ⟨2, ![1, 128]⟩
abbrev S512x1024 : Shape := ⟨2, ![512, 1024]⟩
abbrev S1x1024 : Shape := ⟨2, ![1, 1024]⟩
abbrev S262144x128 : Shape := ⟨2, ![262144, 128]⟩
abbrev S32768x128 : Shape := ⟨2, ![32768, 128]⟩
abbrev S8x32768 : Shape := ⟨2, ![8, 32768]⟩
abbrev S512x512 : Shape := ⟨2, ![512, 512]⟩
abbrev S4096x128 : Shape := ⟨2, ![4096, 128]⟩
abbrev S512x128 : Shape := ⟨2, ![512, 128]⟩
abbrev S8x512 : Shape := ⟨2, ![8, 512]⟩
abbrev S512 : Shape := ⟨1, ![512]⟩
abbrev S512x1 : Shape := ⟨2, ![512, 1]⟩
abbrev S128 : Shape := ⟨1, ![128]⟩
abbrev S128x512 : Shape := ⟨2, ![128, 512]⟩

abbrev nBuf : Space → Nat
  | .hbm => 33
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S_, .i32⟩
  | .hbm, ⟨10, _⟩ => ⟨S_, .f32⟩
  | .hbm, ⟨11, _⟩ => ⟨S1024x96, .f32⟩
  | .hbm, ⟨12, _⟩ => ⟨S1024x128, .f32⟩
  | .hbm, ⟨13, _⟩ => ⟨S1x32, .f32⟩
  | .hbm, ⟨14, _⟩ => ⟨S1x4, .f32⟩
  | .hbm, ⟨15, _⟩ => ⟨S_, .i32⟩
  | .hbm, ⟨16, _⟩ => ⟨S_, .f32⟩
  | .hbm, ⟨17, _⟩ => ⟨S1x96, .f32⟩
  | .hbm, ⟨18, _⟩ => ⟨S1x128, .f32⟩
  | .hbm, ⟨19, _⟩ => ⟨S512x1024, .f32⟩
  | .hbm, ⟨20, _⟩ => ⟨S512x1024, .bf16⟩
  | .hbm, ⟨21, _⟩ => ⟨S512x1024, .f32⟩
  | .hbm, ⟨22, _⟩ => ⟨S512x1024, .bf16⟩
  | .hbm, ⟨23, _⟩ => ⟨S1x1024, .f32⟩
  | .hbm, ⟨24, _⟩ => ⟨S1024x128, .bf16⟩
  | .hbm, ⟨25, _⟩ => ⟨S1024x128, .f32⟩
  | .hbm, ⟨26, _⟩ => ⟨S1024x128, .f32⟩
  | .hbm, ⟨27, _⟩ => ⟨S1024x128, .bf16⟩
  | .hbm, ⟨28, _⟩ => ⟨S32768x1024, .f32⟩
  | .hbm, ⟨29, _⟩ => ⟨S262144x128, .f32⟩
  | .hbm, ⟨30, _⟩ => ⟨S32768x128, .f32⟩
  | .hbm, ⟨31, _⟩ => ⟨S8x32768, .f32⟩
  | .hbm, ⟨32, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S4096x128, .f32⟩
  | .local _ .vmem, ⟨15, _⟩ => ⟨S4096x128, .f32⟩
  | .local _ .vmem, ⟨16, _⟩ => ⟨S512x128, .f32⟩
  | .local _ .vmem, ⟨17, _⟩ => ⟨S512x128, .f32⟩
  | .local _ .vmem, ⟨18, _⟩ => ⟨S8x512, .f32⟩
  | .local _ .vmem, ⟨19, _⟩ => ⟨S8x512, .f32⟩
  | .local _ .vmem, ⟨20, _⟩ => ⟨S1x128, .f32⟩
  | .local _ .vmem, ⟨21, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev main_v15_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S262144x128 : Shape := ⟨2, ![262144, 128]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S32768x1024, .bf16⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S262144x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Kernel4.lean ====
abbrev S32768x1024 : Shape := ⟨2, ![32768, 1024]⟩
abbrev S31x512 : Shape := ⟨2, ![31, 512]⟩
abbrev S512 : Shape := ⟨1, ![512]⟩
abbrev S1x512 : Shape := ⟨2, ![1, 512]⟩
abbrev S32768x512 : Shape := ⟨2, ![32768, 512]⟩
abbrev S512x1024 : Shape := ⟨2, ![512, 1024]⟩
abbrev S512x512 : Shape := ⟨2, ![512, 512]⟩
abbrev S544x512 : Shape := ⟨2, ![544, 512]⟩
abbrev S32x512 : Shape := ⟨2, ![32, 512]⟩
abbrev S520x512 : Shape := ⟨2, ![520, 512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S31x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S544x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S32768x1024 : Shape := ⟨2, ![32768, 1024]⟩
abbrev S31x512 : Shape := ⟨2, ![31, 512]⟩
abbrev S512 : Shape := ⟨1, ![512]⟩
abbrev S4x8192x1024 : Shape := ⟨3, ![4, 8192, 1024]⟩
abbrev S4x8192x512 : Shape := ⟨3, ![4, 8192, 512]⟩
abbrev S_ : Shape := ⟨0, ![]⟩
abbrev S4x8222x512 : Shape := ⟨3, ![4, 8222, 512]⟩
abbrev S1x512 : Shape := ⟨2, ![1, 512]⟩
abbrev S1x1x512 : Shape := ⟨3, ![1, 1, 512]⟩
abbrev S4x8192 : Shape := ⟨2, ![4, 8192]⟩
abbrev S4x8192x1 : Shape := ⟨3, ![4, 8192, 1]⟩
abbrev S32768x512 : Shape := ⟨2, ![32768, 512]⟩

abbrev nBuf : Space → Nat
  | .hbm => 279
  | .vmem => 0
  | .smem => 0
  | _ => 0

abbrev hbmTy0_0 (i : Nat) : BufTy := match i % 128 with
  | 0 => ⟨S32768x1024, .f32⟩
  | 1 => ⟨S31x512, .f32⟩
  | 2 => ⟨S512, .f32⟩
  | 3 => ⟨S512, .f32⟩
  | 4 => ⟨S512, .f32⟩
  | 5 => ⟨S4x8192x1024, .f32⟩
  | 6 => ⟨S4x8192x512, .f32⟩
  | 7 => ⟨S4x8192x512, .f32⟩
  | 8 => ⟨S4x8192x512, .f32⟩
  | 9 => ⟨S4x8192x512, .f32⟩
  | 10 => ⟨S_, .f32⟩
  | 11 => ⟨S4x8192x512, .f32⟩
  | 12 => ⟨S4x8192x512, .f32⟩
  | 13 => ⟨S_, .f32⟩
  | 14 => ⟨S4x8192x512, .f32⟩
  | 15 => ⟨S4x8192x512, .f32⟩
  | 16 => ⟨S4x8192x512, .f32⟩
  | 17 => ⟨S_, .i32⟩
  | 18 => ⟨S_, .f32⟩
  | 19 => ⟨S4x8222x512, .f32⟩
  | 20 => ⟨S4x8192x512, .f32⟩
  | 21 => ⟨S1x512, .f32⟩
  | 22 => ⟨S512, .f32⟩
  | 23 => ⟨S1x1x512, .f32⟩
  | 24 => ⟨S4x8192x512, .f32⟩
  | 25 => ⟨S4x8192x512, .f32⟩
  | 26 => ⟨S4x8192x512, .f32⟩
  | 27 => ⟨S1x512, .f32⟩
  | 28 => ⟨S512, .f32⟩
  | 29 => ⟨S1x1x512, .f32⟩
  | 30 => ⟨S4x8192x512, .f32⟩
  | 31 => ⟨S4x8192x512, .f32⟩
  | 32 => ⟨S4x8192x512, .f32⟩
  | 33 => ⟨S1x512, .f32⟩
  | 34 => ⟨S512, .f32⟩
  | 35 => ⟨S1x1x512, .f32⟩
  | 36 => ⟨S4x8192x512, .f32⟩
  | 37 => ⟨S4x8192x512, .f32⟩
  | 38 => ⟨S4x8192x512, .f32⟩
  | 39 => ⟨S1x512, .f32⟩
  | 40 => ⟨S512, .f32⟩
  | 41 => ⟨S1x1x512, .f32⟩
  | 42 => ⟨S4x8192x512, .f32⟩
  | 43 => ⟨S4x8192x512, .f32⟩
  | 44 => ⟨S4x8192x512, .f32⟩
  | 45 => ⟨S1x512, .f32⟩
  | 46 => ⟨S512, .f32⟩
  | 47 => ⟨S1x1x512, .f32⟩
  | 48 => ⟨S4x8192x512, .f32⟩
  | 49 => ⟨S4x8192x512, .f32⟩
  | 50 => ⟨S4x8192x512, .f32⟩
  | 51 => ⟨S1x512, .f32⟩
  | 52 => ⟨S512, .f32⟩
  | 53 => ⟨S1x1x512, .f32⟩
  | 54 => ⟨S4x8192x512, .f32⟩
  | 55 => ⟨S4x8192x512, .f32⟩
  | 56 => ⟨S4x8192x512, .f32⟩
  | 57 => ⟨S1x512, .f32⟩
  | 58 => ⟨S512, .f32⟩
  | 59 => ⟨S1x1x512, .f32⟩
  | 60 => ⟨S4x8192x512, .f32⟩
  | 61 => ⟨S4x8192x512, .f32⟩
  | 62 => ⟨S4x8192x512, .f32⟩
  | 63 => ⟨S1x512, .f32⟩
  | 64 => ⟨S512, .f32⟩
  | 65 => ⟨S1x1x512, .f32⟩
  | 66 => ⟨S4x8192x512, .f32⟩
  | 67 => ⟨S4x8192x512, .f32⟩
  | 68 => ⟨S4x8192x512, .f32⟩
  | 69 => ⟨S1x512, .f32⟩
  | 70 => ⟨S512, .f32⟩
  | 71 => ⟨S1x1x512, .f32⟩
  | 72 => ⟨S4x8192x512, .f32⟩
  | 73 => ⟨S4x8192x512, .f32⟩
  | 74 => ⟨S4x8192x512, .f32⟩
  | 75 => ⟨S1x512, .f32⟩
  | 76 => ⟨S512, .f32⟩
  | 77 => ⟨S1x1x512, .f32⟩
  | 78 => ⟨S4x8192x512, .f32⟩
  | 79 => ⟨S4x8192x512, .f32⟩
  | 80 => ⟨S4x8192x512, .f32⟩
  | 81 => ⟨S1x512, .f32⟩
  | 82 => ⟨S512, .f32⟩
  | 83 => ⟨S1x1x512, .f32⟩
  | 84 => ⟨S4x8192x512, .f32⟩
  | 85 => ⟨S4x8192x512, .f32⟩
  | 86 => ⟨S4x8192x512, .f32⟩
  | 87 => ⟨S1x512, .f32⟩
  | 88 => ⟨S512, .f32⟩
  | 89 => ⟨S1x1x512, .f32⟩
  | 90 => ⟨S4x8192x512, .f32⟩
  | 91 => ⟨S4x8192x512, .f32⟩
  | 92 => ⟨S4x8192x512, .f32⟩
  | 93 => ⟨S1x512, .f32⟩
  | 94 => ⟨S512, .f32⟩
  | 95 => ⟨S1x1x512, .f32⟩
  | 96 => ⟨S4x8192x512, .f32⟩
  | 97 => ⟨S4x8192x512, .f32⟩
  | 98 => ⟨S4x8192x512, .f32⟩
  | 99 => ⟨S1x512, .f32⟩
  | 100 => ⟨S512, .f32⟩
  | 101 => ⟨S1x1x512, .f32⟩
  | 102 => ⟨S4x8192x512, .f32⟩
  | 103 => ⟨S4x8192x512, .f32⟩
  | 104 => ⟨S4x8192x512, .f32⟩
  | 105 => ⟨S1x512, .f32⟩
  | 106 => ⟨S512, .f32⟩
  | 107 => ⟨S1x1x512, .f32⟩
  | 108 => ⟨S4x8192x512, .f32⟩
  | 109 => ⟨S4x8192x512, .f32⟩
  | 110 => ⟨S4x8192x512, .f32⟩
  | 111 => ⟨S1x512, .f32⟩
  | 112 => ⟨S512, .f32⟩
  | 113 => ⟨S1x1x512, .f32⟩
  | 114 => ⟨S4x8192x512, .f32⟩
  | 115 => ⟨S4x8192x512, .f32⟩
  | 116 => ⟨S4x8192x512, .f32⟩
  | 117 => ⟨S1x512, .f32⟩
  | 118 => ⟨S512, .f32⟩
  | 119 => ⟨S1x1x512, .f32⟩
  | 120 => ⟨S4x8192x512, .f32⟩
  | 121 => ⟨S4x8192x512, .f32⟩
  | 122 => ⟨S4x8192x512, .f32⟩
  | 123 => ⟨S1x512, .f32⟩
  | 124 => ⟨S512, .f32⟩
  | 125 => ⟨S1x1x512, .f32⟩
  | 126 => ⟨S4x8192x512, .f32⟩
  | 127 => ⟨S4x8192x512, .f32⟩
  | _ => ⟨S32768x1024, .f32⟩

abbrev hbmTy0_1 (i : Nat) : BufTy := match i % 128 with
  | 0 => ⟨S4x8192x512, .f32⟩
  | 1 => ⟨S1x512, .f32⟩
  | 2 => ⟨S512, .f32⟩
  | 3 => ⟨S1x1x512, .f32⟩
  | 4 => ⟨S4x8192x512, .f32⟩
  | 5 => ⟨S4x8192x512, .f32⟩
  | 6 => ⟨S4x8192x512, .f32⟩
  | 7 => ⟨S1x512, .f32⟩
  | 8 => ⟨S512, .f32⟩
  | 9 => ⟨S1x1x512, .f32⟩
  | 10 => ⟨S4x8192x512, .f32⟩
  | 11 => ⟨S4x8192x512, .f32⟩
  | 12 => ⟨S4x8192x512, .f32⟩
  | 13 => ⟨S1x512, .f32⟩
  | 14 => ⟨S512, .f32⟩
  | 15 => ⟨S1x1x512, .f32⟩
  | 16 => ⟨S4x8192x512, .f32⟩
  | 17 => ⟨S4x8192x512, .f32⟩
  | 18 => ⟨S4x8192x512, .f32⟩
  | 19 => ⟨S1x512, .f32⟩
  | 20 => ⟨S512, .f32⟩
  | 21 => ⟨S1x1x512, .f32⟩
  | 22 => ⟨S4x8192x512, .f32⟩
  | 23 => ⟨S4x8192x512, .f32⟩
  | 24 => ⟨S4x8192x512, .f32⟩
  | 25 => ⟨S1x512, .f32⟩
  | 26 => ⟨S512, .f32⟩
  | 27 => ⟨S1x1x512, .f32⟩
  | 28 => ⟨S4x8192x512, .f32⟩
  | 29 => ⟨S4x8192x512, .f32⟩
  | 30 => ⟨S4x8192x512, .f32⟩
  | 31 => ⟨S1x512, .f32⟩
  | 32 => ⟨S512, .f32⟩
  | 33 => ⟨S1x1x512, .f32⟩
  | 34 => ⟨S4x8192x512, .f32⟩
  | 35 => ⟨S4x8192x512, .f32⟩
  | 36 => ⟨S4x8192x512, .f32⟩
  | 37 => ⟨S1x512, .f32⟩
  | 38 => ⟨S512, .f32⟩
  | 39 => ⟨S1x1x512, .f32⟩
  | 40 => ⟨S4x8192x512, .f32⟩
  | 41 => ⟨S4x8192x512, .f32⟩
  | 42 => ⟨S4x8192x512, .f32⟩
  | 43 => ⟨S1x512, .f32⟩
  | 44 => ⟨S512, .f32⟩
  | 45 => ⟨S1x1x512, .f32⟩
  | 46 => ⟨S4x8192x512, .f32⟩
  | 47 => ⟨S4x8192x512, .f32⟩
  | 48 => ⟨S4x8192x512, .f32⟩
  | 49 => ⟨S1x512, .f32⟩
  | 50 => ⟨S512, .f32⟩
  | 51 => ⟨S1x1x512, .f32⟩
  | 52 => ⟨S4x8192x512, .f32⟩
  | 53 => ⟨S4x8192x512, .f32⟩
  | 54 => ⟨S4x8192x512, .f32⟩
  | 55 => ⟨S1x512, .f32⟩
  | 56 => ⟨S512, .f32⟩
  | 57 => ⟨S1x1x512, .f32⟩
  | 58 => ⟨S4x8192x512, .f32⟩
  | 59 => ⟨S4x8192x512, .f32⟩
  | 60 => ⟨S4x8192x512, .f32⟩
  | 61 => ⟨S1x512, .f32⟩
  | 62 => ⟨S512, .f32⟩
  | 63 => ⟨S1x1x512, .f32⟩
  | 64 => ⟨S4x8192x512, .f32⟩
  | 65 => ⟨S4x8192x512, .f32⟩
  | 66 => ⟨S4x8192x512, .f32⟩
  | 67 => ⟨S1x512, .f32⟩
  | 68 => ⟨S512, .f32⟩
  | 69 => ⟨S1x1x512, .f32⟩
  | 70 => ⟨S4x8192x512, .f32⟩
  | 71 => ⟨S4x8192x512, .f32⟩
  | 72 => ⟨S4x8192x512, .f32⟩
  | 73 => ⟨S1x512, .f32⟩
  | 74 => ⟨S512, .f32⟩
  | 75 => ⟨S1x1x512, .f32⟩
  | 76 => ⟨S4x8192x512, .f32⟩
  | 77 => ⟨S4x8192x512, .f32⟩
  | 78 => ⟨S4x8192x512, .f32⟩
  | 79 => ⟨S4x8192x512, .f32⟩
  | 80 => ⟨S4x8192x512, .f32⟩
  | 81 => ⟨S4x8192x512, .f32⟩
  | 82 => ⟨S4x8192x512, .f32⟩
  | 83 => ⟨S4x8192x512, .f32⟩
  | 84 => ⟨S4x8192x512, .f32⟩
  | 85 => ⟨S4x8192x512, .f32⟩
  | 86 => ⟨S4x8192x512, .f32⟩
  | 87 => ⟨S4x8192x512, .f32⟩
  | 88 => ⟨S4x8192x512, .f32⟩
  | 89 => ⟨S4x8192x512, .f32⟩
  | 90 => ⟨S4x8192x512, .f32⟩
  | 91 => ⟨S4x8192x512, .f32⟩
  | 92 => ⟨S4x8192x512, .f32⟩
  | 93 => ⟨S4x8192x512, .f32⟩
  | 94 => ⟨S4x8192x512, .f32⟩
  | 95 => ⟨S4x8192x512, .f32⟩
  | 96 => ⟨S4x8192x512, .f32⟩
  | 97 => ⟨S4x8192x512, .f32⟩
  | 98 => ⟨S4x8192x512, .f32⟩
  | 99 => ⟨S4x8192x512, .f32⟩
  | 100 => ⟨S4x8192x512, .f32⟩
  | 101 => ⟨S4x8192x512, .f32⟩
  | 102 => ⟨S4x8192x512, .f32⟩
  | 103 => ⟨S4x8192x512, .f32⟩
  | 104 => ⟨S4x8192x512, .f32⟩
  | 105 => ⟨S4x8192x512, .f32⟩
  | 106 => ⟨S4x8192x512, .f32⟩
  | 107 => ⟨S4x8192x512, .f32⟩
  | 108 => ⟨S1x1x512, .f32⟩
  | 109 => ⟨S4x8192x512, .f32⟩
  | 110 => ⟨S4x8192x512, .f32⟩
  | 111 => ⟨S_, .f32⟩
  | 112 => ⟨S4x8192, .f32⟩
  | 113 => ⟨S4x8192x1, .f32⟩
  | 114 => ⟨S_, .f32⟩
  | 115 => ⟨S4x8192x1, .f32⟩
  | 116 => ⟨S4x8192x1, .f32⟩
  | 117 => ⟨S4x8192x512, .f32⟩
  | 118 => ⟨S4x8192x512, .f32⟩
  | 119 => ⟨S4x8192x512, .f32⟩
  | 120 => ⟨S_, .f32⟩
  | 121 => ⟨S4x8192, .f32⟩
  | 122 => ⟨S4x8192x1, .f32⟩
  | 123 => ⟨S_, .f32⟩
  | 124 => ⟨S4x8192x1, .f32⟩
  | 125 => ⟨S4x8192x1, .f32⟩
  | 126 => ⟨S4x8192x512, .f32⟩
  | 127 => ⟨S4x8192x512, .f32⟩
  | _ => ⟨S32768x1024, .f32⟩

abbrev hbmTy0_2 (i : Nat) : BufTy := match i % 128 with
  | 0 => ⟨S_, .f32⟩
  | 1 => ⟨S4x8192x1, .f32⟩
  | 2 => ⟨S4x8192x1, .f32⟩
  | 3 => ⟨S4x8192x1, .f32⟩
  | 4 => ⟨S4x8192x512, .f32⟩
  | 5 => ⟨S4x8192x512, .f32⟩
  | 6 => ⟨S1x1x512, .f32⟩
  | 7 => ⟨S4x8192x512, .f32⟩
  | 8 => ⟨S4x8192x512, .f32⟩
  | 9 => ⟨S1x1x512, .f32⟩
  | 10 => ⟨S4x8192x512, .f32⟩
  | 11 => ⟨S4x8192x512, .f32⟩
  | 12 => ⟨S4x8192x512, .f32⟩
  | 13 => ⟨S4x8192x512, .f32⟩
  | 14 => ⟨S_, .f32⟩
  | 15 => ⟨S4x8192x512, .f32⟩
  | 16 => ⟨S4x8192x512, .f32⟩
  | 17 => ⟨S_, .f32⟩
  | 18 => ⟨S4x8192x512, .f32⟩
  | 19 => ⟨S4x8192x512, .f32⟩
  | 20 => ⟨S4x8192x512, .f32⟩
  | 21 => ⟨S32768x512, .f32⟩
  | 22 => ⟨S32768x512, .bf16⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_cst_1 : Ref sig .tc := ⟨.hbm, 239, rfl⟩
abbrev main_v230 : Ref sig .tc := ⟨.hbm, 240, rfl⟩
abbrev main_v231 : Ref sig .tc := ⟨.hbm, 241, rfl⟩
abbrev main_cst_2 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_cst_3 : Ref sig .tc := ⟨.hbm, 248, rfl⟩
abbrev main_v237 : Ref sig .tc := ⟨.hbm, 249, rfl⟩
abbrev main_v238 : Ref sig .tc := ⟨.hbm, 250, rfl⟩
abbrev main_cst_4 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_cst_5 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_call1_v0 : Ref sig .tc := ⟨.hbm, 268, rfl⟩
abbrev main_call1_v1 : Ref sig .tc := ⟨.hbm, 269, rfl⟩
abbrev main_call1_cst : Ref sig .tc := ⟨.hbm, 270, rfl⟩
abbrev main_call1_v2 : Ref sig .tc := ⟨.hbm, 271, rfl⟩
abbrev main_call1_v3 : Ref sig .tc := ⟨.hbm, 272, rfl⟩
abbrev main_call1_cst_0 : Ref sig .tc := ⟨.hbm, 273, rfl⟩
abbrev main_call1_v4 : Ref sig .tc := ⟨.hbm, 274, rfl⟩
abbrev main_call1_v5 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩

abbrev nD : Nat := 1
abbrev τ : Topo := Topo.v7x

variable {F : FTy → Type} [FloatOps F]
-- ==== Proof.InProj.lean ====
module

public import proofs.«01_k».proof.Proof.Gen.KernelIdeal.Value
public import proofs.«01_k».proof.Proof.Gen.ReferenceIdeal.Read
public import Idealize.ShloMosaic.Lib.Pipeline.ValueKit

@[expose] public section

set_option maxRecDepth 16384

noncomputable section

namespace Cert.KernelIdeal.InProj

open Cert.KernelIdeal Cert.KernelIdeal.Gen Idealize.ShloMosaic Idealize.ShloMosaic.TcCoe Idealize.SL.Sem
open Idealize.ShloMosaic.Pipeline (Dat)
open Cert.ReferenceIdeal.Read

variable (m : (ℓ : Loc nD τ sig) → Buf (Elt Ideal) ℓ)

/-- The index maps of the ten windows: tile `t` of the token arrays, the whole of each parameter. -/
theorem idx : ∀ t : Fin cfg0.N,
    win0_0.index t = ![t.val, 0] ∧ win0_1.index t = ![0, 0] ∧ win0_2.index t = ![0, 0] ∧ win0_3.index t = ![0, 0]
      ∧ win0_4.index t = ![0, 0] ∧ win0_5.index t = ![0, 0] ∧ win0_6.index t = ![t.val, 0]
      ∧ win0_7.index t = ![t.val, 0] ∧ win0_8.index t = ![t.val, 0] ∧ win0_9.index t = ![t.val, 0] :=
  (by decide +kernel : ∀ t : Fin grid0.N,
    win0_0.index t = ![t.val, 0] ∧ win0_1.index t = ![0, 0] ∧ win0_2.index t = ![0, 0] ∧ win0_3.index t = ![0, 0]
      ∧ win0_4.index t = ![0, 0] ∧ win0_5.index t = ![0, 0] ∧ win0_6.index t = ![t.val, 0]
      ∧ win0_7.index t = ![t.val, 0] ∧ win0_8.index t = ![t.val, 0] ∧ win0_9.index t = ![t.val, 0])

/-- The normalisation's gains as one row. -/
abbrev gainRow (g : FVec Ideal S1024 .f32) : FVec Ideal S1x1024 .f32 :=
  broadcastInDim S1x1024 ![1] bcast_S1024_S1x1024_1 g
/-- The columns of the weight matrix that make queries, keys and values. -/
abbrev qkvCols (w : FVec Ideal S1024x3080 .f32) : FVec Ideal S1024x1536 .bf16 :=
  truncf .bf16 (extractStridedSlice S1024x1536 ![0, 0] w slices_S1024x3080_S1024x1536_0_0) bitsLt_bf16_f32
/-- The columns that make the output gate. -/
abbrev gateCols (w : FVec Ideal S1024x3080 .f32) : FVec Ideal S1024x512 .bf16 :=
  truncf .bf16 (extractStridedSlice S1024x512 ![0, 1536] w slices_S1024x3080_S1024x512_0_1536) bitsLt_bf16_f32
/-- The eight columns that make the decay and the write strength, padded to 128. -/
abbrev rateCols (w : FVec Ideal S1024x3080 .f32) : FVec Ideal S1024x128 .bf16 :=
  truncf .bf16 (pad S1024x128 ![0, 0] ![0, 120] ![0, 0]
    (extractStridedSlice S1024x8 ![0, 2048] w slices_S1024x3080_S1024x8_0_2048)
    (sitofp .f32 (constantI S_ 32 0#32)) pads_S1024x8_S1024x128_000_01200 h_S_) bitsLt_bf16_f32
/-- The columns of the convolution branch. -/
abbrev convCols (w : FVec Ideal S1024x3080 .f32) : FVec Ideal S1024x1024 .bf16 :=
  truncf .bf16 (extractStridedSlice S1024x1024 ![0, 2056] w slices_S1024x3080_S1024x1024_0_2056) bitsLt_bf16_f32

/-! ## The operands the host prepares, as the region finds them -/

theorem V_gain (c : Dev nD) : V m c main_v0 = gainRow (m ((c : Thread nD τ).loc main_arg1)) := by
  unfold V
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results

theorem V_qkv (c : Dev nD) : V m c main_v2 = qkvCols (m ((c : Thread nD τ).loc main_arg2)) := by
  unfold V
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results

theorem V_gate (c : Dev nD) : V m c main_v4 = gateCols (m ((c : Thread nD τ).loc main_arg2)) := by
  unfold V
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results

theorem V_rates (c : Dev nD) : V m c main_v7 = rateCols (m ((c : Thread nD τ).loc main_arg2)) := by
  unfold V
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results

theorem V_conv (c : Dev nD) : V m c main_v9 = convCols (m ((c : Thread nD τ).loc main_arg2)) := by
  unfold V
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results

/-! ## Their blocks at an index -/

theorem gain_at (c : Dev nD) (t : Fin cfg0.N) (k : Fin 1024) :
    iblk m c 1 t (ix2 (0 : Fin 1) k) = m ((c : Thread nD τ).loc main_arg1) (ix1 k) := by
  show V m c main_v0 ((win0_1.blk t).view.emb (ix2 (0 : Fin 1) k)) = _
  rw [V_gain]
  pointwise
  blk_ext [idx t]

theorem qkv_at (c : Dev nD) (t : Fin cfg0.N) (k : Fin 1024) (j : Fin 1536) :
    iblk m c 2 t (ix2 k j) = m ((c : Thread nD τ).loc main_arg2) (ix2 k (⟨0 + j.val, by omega⟩ : Fin 3080)) := by
  show V m c main_v2 ((win0_2.blk t).view.emb (ix2 k j)) = _
  rw [V_qkv]
  pointwise
  blk_ext [idx t]

theorem gate_at (c : Dev nD) (t : Fin cfg0.N) (k : Fin 1024) (j : Fin 512) :
    iblk m c 3 t (ix2 k j) = m ((c : Thread nD τ).loc main_arg2) (ix2 k (⟨1536 + j.val, by omega⟩ : Fin 3080)) := by
  show V m c main_v4 ((win0_3.blk t).view.emb (ix2 k j)) = _
  rw [V_gate]
  pointwise
  blk_ext [idx t]

theorem conv_at (c : Dev nD) (t : Fin cfg0.N) (k : Fin 1024) (j : Fin 1024) :
    iblk m c 5 t (ix2 k j) = m ((c : Thread nD τ).loc main_arg2) (ix2 k (⟨2056 + j.val, by omega⟩ : Fin 3080)) := by
  show V m c main_v9 ((win0_5.blk t).view.emb (ix2 k j)) = _
  rw [V_conv]
  pointwise
  blk_ext [idx t]

/-- The integer zero the host pads with is the real zero. -/
theorem zero_word : (FloatOps.sitofp (F := Ideal) .f32 (0#32) : EReal) = 0 := by
  show (((0#32 : BitVec 32).toInt : ℝ) : EReal) = 0
  simp

/-- The decay and write-strength columns below lane 8, -/
theorem rates_at (c : Dev nD) (t : Fin cfg0.N) (k : Fin 1024) (j : Fin 128) (hj : j.val < 8) :
    iblk m c 4 t (ix2 k j) = m ((c : Thread nD τ).loc main_arg2) (ix2 k (⟨2048 + j.val, by omega⟩ : Fin 3080)) := by
  have he : (win0_4.blk t).view.emb (ix2 k j) = (ix2 k j : S1024x128.Idx) := by blk_ext [idx t]
  show V m c main_v7 ((win0_4.blk t).view.emb (ix2 k j)) = _
  rw [V_rates, he]
  pointwise
  rw [dif_pos hj]

/-- and zero from lane 8 on. -/
theorem rates_pad (c : Dev nD) (t : Fin cfg0.N) (k : Fin 1024) (j : Fin 128) (hj : ¬ j.val < 8) :
    iblk m c 4 t (ix2 k j) = (0 : EReal) := by
  have he : (win0_4.blk t).view.emb (ix2 k j) = (ix2 k j : S1024x128.Idx) := by blk_ext [idx t]
  show V m c main_v7 ((win0_4.blk t).view.emb (ix2 k j)) = _
  rw [V_rates, he]
  pointwise
  rw [dif_neg hj]
  exact zero_word

/-! ## What each point stores, and the four result arrays -/

/-- The query, key and value columns: columns 0 to 1535 of the product. -/
theorem point6 (c : Dev nD) (t : Fin cfg0.N) (y) :
    k0_pay2 (iblk m c 0 t) (iblk m c 1 t) (iblk m c 2 t) y
      = val_main_v16 (m ((c : Thread nD τ).loc main_arg0)) (m ((c : Thread nD τ).loc main_arg1))
          (m ((c : Thread nD τ).loc main_arg2)) (((cfg0.win 6).blk t).view.emb y) := by
  pointwise [k0_pay2, k0_pay1, val_main_v16, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  simp only [gain_at]
  blk_point [iblk, V, idx t]
  exact (qkv_at m c t x (y 1)).trans (by blk_ext)

theorem final6 (c : Dev nD) : (dats m 0 c).arrAt 6 cfg0.N
    = val_main_v16 (m ((c : Thread nD τ).loc main_arg0)) (m ((c : Thread nD τ).loc main_arg1))
        (m ((c : Thread nD τ).loc main_arg2)) := by
  refine (dats m 0 c).arrAt_eq_of_covers 6 _ (by decide +kernel) fun t _ y => ?_
  blk_simp
  rw [after0_6]; frame_out
  exact point6 m c t y

/-- The output gate: columns 1536 to 2047. -/
theorem point7 (c : Dev nD) (t : Fin cfg0.N) (y) :
    k0_pay3 (iblk m c 0 t) (iblk m c 1 t) (iblk m c 3 t) y
      = val_main_v17 (m ((c : Thread nD τ).loc main_arg0)) (m ((c : Thread nD τ).loc main_arg1))
          (m ((c : Thread nD τ).loc main_arg2)) (((cfg0.win 7).blk t).view.emb y) := by
  pointwise [k0_pay3, k0_pay1, val_main_v17, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  simp only [gain_at]
  blk_point [iblk, V, idx t]
  exact (gate_at m c t x (y 1)).trans (by blk_ext)

theorem final7 (c : Dev nD) : (dats m 0 c).arrAt 7 cfg0.N
    = val_main_v17 (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7]; frame_out
  exact point7 m c t y

/-- The convolution branch: columns 2056 to 3079. -/
theorem point9 (c : Dev nD) (t : Fin cfg0.N) (y) :
    k0_pay5 (iblk m c 0 t) (iblk m c 1 t) (iblk m c 5 t) y
      = val_main_v18 (m ((c : Thread nD τ).loc main_arg0)) (m ((c : Thread nD τ).loc main_arg1))
          (m ((c : Thread nD τ).loc main_arg2)) (((cfg0.win 9).blk t).view.emb y) := by
  pointwise [k0_pay5, k0_pay1, val_main_v18, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  simp only [gain_at]
  blk_point [iblk, V, idx t]
  exact (conv_at m c t x (y 1)).trans (by blk_ext)

theorem final9 (c : Dev nD) : (dats m 0 c).arrAt 9 cfg0.N
    = val_main_v18 (m ((c : Thread nD τ).loc main_arg0)) (m ((c : Thread nD τ).loc main_arg1))
        (m ((c : Thread nD τ).loc main_arg2)) := by
  refine (dats m 0 c).arrAt_eq_of_covers 9 _ (by decide +kernel) fun t _ y => ?_
  blk_simp
  rw [after0_9]; frame_out
  exact point9 m c t y

/-- The decay and write-strength columns, 2048 to 2055, beside 120 zero columns. -/
theorem point8 (c : Dev nD) (t : Fin cfg0.N) (y) :
    k0_pay4 (iblk m c 0 t) (iblk m c 1 t) (iblk m c 4 t) y
      = val_main_v15 (m ((c : Thread nD τ).loc main_arg0)) (m ((c : Thread nD τ).loc main_arg1))
          (m ((c : Thread nD τ).loc main_arg2)) (((cfg0.win 8).blk t).view.emb y) := by
  pointwise [k0_pay4, k0_pay1, val_main_v15, val_main_v14, val_main_call0_v0, val_main_c, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  have hl : (((((cfg0.win 8).blk t).view.emb y) 1 : ℕ)) = (y 1).val := by blk_simp [idx t]
  by_cases hj : (y 1).val < 8
  · rw [dif_pos (hl.trans_lt hj)]
    simp only [gain_at]
    blk_point [iblk, V, idx t]
    exact rates_at m c t x (y 1) hj
  · rw [dif_neg (fun h => hj (hl.symm.trans_lt h))]
    refine (Finset.sum_eq_zero fun x _ => ?_).trans zero_word.symm
    rw [show iblk m c 4 t (ix2 x (y 1)) = (0 : EReal) from rates_pad m c t x (y 1) hj]
    exact mul_zero _

theorem final8 (c : Dev nD) : (dats m 0 c).arrAt 8 cfg0.N
    = val_main_v15 (m ((c : Thread nD τ).loc main_arg0)) (m ((c : Thread nD τ).loc main_arg1))
        (m ((c : Thread nD τ).loc main_arg2)) := by
  refine (dats m 0 c).arrAt_eq_of_covers 8 _ (by decide +kernel) fun t _ y => ?_
  blk_simp
  rw [after0_8]; frame_out
  exact point8 m c t y

end Cert.KernelIdeal.InProj

end
-- ==== Proof.ExpertsSetup.lean ====
/- The experts' call, set up for its launch: what the host has prepared when the kernel starts, the two prefetched
   tables (the expert of each block of slots, and how many blocks hold slots), the windows' blocks as functions of
   the tables' words, and the frame claim read off a run. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Tactic
public import Idealize.ShloMosaic.Lib.WordCmp

@[expose] public section

set_option maxRecDepth 16384

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S160 .i32 := Memref.whole main_v28
abbrev htbM0_0 : tbM0_0.IsWhole := Memref.isWhole_whole _
abbrev tbM0_1 : Memref sig .tc .smem S1 .i32 := Memref.whole main_v29
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c)))⟩) h

/-! ## The kernel body on any staging memrefs: a subtype the run finds -/

/-- One staging buffer of output window 4, through which its contents are stated (`View.read_writes_of_cover`: the
    choice does not matter). -/
abbrev VO0_4 : View sig .tc .vmem S4096x128 .f32 := (Memref.whole cc0_stg4_0 : Memref sig .tc .vmem S4096x128 .f32).view
/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4096x128 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S1024x512 .bf16 := Memref.whole cc0_scratch0
abbrev scM0_1 : Memref sig .tc .vmem S1024x512 .bf16 := Memref.whole cc0_scratch1
abbrev scM0_2 : Memref sig .tc .vmem S512x1024 .bf16 := Memref.whole cc0_scratch2
/-- The scratch `arg8` the kernel carries between points, as a view: what it holds is stated through it. -/
abbrev VS0_0 : View sig .tc .vmem S1024x512 .bf16 := scM0_0.view
/-- The scratch `arg9` the kernel carries between points, as a view: what it holds is stated through it. -/
abbrev VS0_1 : View sig .tc .vmem S1024x512 .bf16 := scM0_1.view
/-- The scratch `arg10` the kernel carries between points, as a view: what it holds is stated through it. -/
abbrev VS0_2 : View sig .tc .vmem S512x1024 .bf16 := scM0_2.view

/-- Window 4 (result 0 (%30)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_v28) (Memref.isWhole_whole _) (Memref.whole main_v29) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel2Ideal.Experts

end
-- ==== Proof.ExpertsRun.lean ====
/- One step of the experts' grid, run: the three cases of a block of slots (used with a new expert, used with the
   expert of the block before, unused), each with what it leaves in the result's block and in the three arrays that
   keep the expert's rounded weights from step to step. -/
module

public import proofs.«01_k».proof.Proof.ExpertsSetup
public import Idealize.ShloMosaic.Lib.Pipeline.ValueKit
public import Idealize.ShloMosaic.Lib.VecWindow

@[expose] public section

set_option maxRecDepth 16384

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The number of blocks that hold slots, as the body reads it. -/
abbrev usedWord (c : Dev nD) (xt1 : TbBuf0 (F := F) c tbM0_1) : BitVec 32 :=
  View.readAt (Elt F) tbM0_1.view (Rect.unit ![0] ![1] inb_S1_S1_0).toLoadRect xt1 (Shape.Idx.first (by show 0 < S1.numel; decide))
/-- The block's expert, -/
abbrev expertWord (c : Dev nD) (i : grid0.Coords) (xt0 : TbBuf0 (F := F) c tbM0_0) : BitVec 32 :=
  View.readAt (Elt F) tbM0_0.view (Rect.unit (s := S160) (k0_off2 i) S1.size (k0_off2_inb i)).toLoadRect xt0 (Shape.Idx.first (by show 0 < S1.numel; decide))
/-- and that of the block before it (of itself, at the first). -/
abbrev formerWord (c : Dev nD) (i : grid0.Coords) (xt0 : TbBuf0 (F := F) c tbM0_0) : BitVec 32 :=
  View.readAt (Elt F) tbM0_0.view (Rect.unit (s := S160) (k0_off3 i) S1.size (k0_off3_inb i)).toLoadRect xt0 (Shape.Idx.first (by show 0 < S1.numel; decide))
/-- The block holds slots. -/
abbrev Used (c : Dev nD) (i : grid0.Coords) (xt1 : TbBuf0 (F := F) c tbM0_1) : Prop := k0_cond1 i (usedWord c xt1) = 1#1
/-- The block's expert is not the one whose weights the step before left. -/
abbrev Changed (c : Dev nD) (i : grid0.Coords) (xt0 : TbBuf0 (F := F) c tbM0_0) : Prop :=
  Scalar.cmpi .ne (Scalar.extui (Scalar.ori (Scalar.cmpi .eq (BitVec.ofNat 32 (i 0).val) 0#32)
    (Scalar.cmpi .ne (expertWord c i xt0) (formerWord c i xt0)))) 0#32 = 1#1

/-- The body's second branch is taken exactly where the first is not. -/
theorem cond3_iff (i : grid0.Coords) (w : BitVec 32) : k0_cond3 i w = 1#1 ↔ ¬ k0_cond1 i w = 1#1 := by
  unfold k0_cond1 k0_cond3
  simp only [Scalar.cmpi, IntOp.cmpi, Scalar.extui]
  generalize BitVec.ofNat 32 (i 0).val = x
  by_cases h : x.toInt < w.toInt
  · have h1 : ¬ w.toInt ≤ x.toInt := not_le.mpr h
    simp [BitVec.slt, BitVec.sle, h, h1]
  · have h1 : w.toInt ≤ x.toInt := not_lt.mp h
    simp [BitVec.slt, BitVec.sle, h, h1]

/-- Column group `j` of a block's slots: lane l of entry r is lane l of row 8 r + j. -/
abbrev group (x0 : Vec F S4096x128 .f32) (j : ℕ)
    (inb : ∀ a, S512x128.size a = 0 ∨ (![j, 0] : Fin 2 → ℕ) a + (![8, 1] : Fin 2 → ℕ) a * (S512x128.size a - 1) < S4096x128.size a) :
    Vec F S512x128 .f32 := fun y => x0 ((⟨![j, 0], S512x128.size, ![8, 1], inb⟩ : LoadRect S4096x128).idx y)
/-- The block's slots as a matrix of 512 slots, rounded. -/
abbrev slots (x0 : Vec F S4096x128 .f32) : FVec F S512x1024 .bf16 :=
  k0_pay14 (group x0 0 inb_S4096x128_S512x128_0_0_s_8_1) (group x0 1 inb_S4096x128_S512x128_1_0_s_8_1)
    (group x0 2 inb_S4096x128_S512x128_2_0_s_8_1) (group x0 3 inb_S4096x128_S512x128_3_0_s_8_1)
    (group x0 4 inb_S4096x128_S512x128_4_0_s_8_1) (group x0 5 inb_S4096x128_S512x128_5_0_s_8_1)
    (group x0 6 inb_S4096x128_S512x128_6_0_s_8_1) (group x0 7 inb_S4096x128_S512x128_7_0_s_8_1)
/-- Their gate, passed through the activation. -/
abbrev gated (x0 : Vec F S4096x128 .f32) (w0 : Vec F S1024x512 .bf16) : FVec F S512x512 .f32 :=
  k0_pay15 (group x0 0 inb_S4096x128_S512x128_0_0_s_8_1) (group x0 1 inb_S4096x128_S512x128_1_0_s_8_1)
    (group x0 2 inb_S4096x128_S512x128_2_0_s_8_1) (group x0 3 inb_S4096x128_S512x128_3_0_s_8_1)
    (group x0 4 inb_S4096x128_S512x128_4_0_s_8_1) (group x0 5 inb_S4096x128_S512x128_5_0_s_8_1)
    (group x0 6 inb_S4096x128_S512x128_6_0_s_8_1) (group x0 7 inb_S4096x128_S512x128_7_0_s_8_1) w0
/-- Row `r` of the result's block is column group `r % 8` of slot `r / 8`. -/
abbrev unfoldRow (y : S4096x128.Idx) : S512x1024.Idx :=
  ix2 (⟨(y 0).val / 8, by have : (y 0).val < 4096 := (y 0).isLt; omega⟩ : Fin 512)
    (⟨128 * ((y 0).val % 8) + (y 1).val, by have : (y 1).val < 128 := (y 1).isLt; omega⟩ : Fin 1024)
/-- What a used block leaves in the result's block, from the kept weights. -/
abbrev blockOut (x0 : Vec F S4096x128 .f32) (w0 w1 : Vec F S1024x512 .bf16) (w2 : Vec F S512x1024 .bf16) : Vec F S4096x128 .f32 :=
  fun y => k0_pay1 (slots x0) (gated x0 w0) w1 w2 (unfoldRow y)

/-- A store of column group `j` at stride 8 agrees with `blockOut`. -/
theorem piece_agrees (j : ℕ) (hj : j < 8) (inb) (sp : ∀ a, 0 < (![8, 1] : Fin 2 → ℕ) a) (M : FVec F S512x1024 .f32) (hs)
    (x : S512x128.Idx) :
    extractStridedSlice S512x128 ![0, 128 * j] M hs x
      = M (unfoldRow ((⟨⟨![j, 0], ![512, 128], ![8, 1], inb⟩, sp⟩ : Rect S4096x128).emb x)) := by
  have h0 : (((⟨⟨![j, 0], ![512, 128], ![8, 1], inb⟩, sp⟩ : Rect S4096x128).emb x) 0).val = j + 8 * (x 0).val := rfl
  have h1 : (((⟨⟨![j, 0], ![512, 128], ![8, 1], inb⟩, sp⟩ : Rect S4096x128).emb x) 1).val = 0 + 1 * (x 1).val := rfl
  refine congrArg M (funext fun a => Fin.ext ?_)
  match a with
  | ⟨0, _⟩ =>
    show 0 + (x 0).val = (((⟨⟨![j, 0], ![512, 128], ![8, 1], inb⟩, sp⟩ : Rect S4096x128).emb x) 0).val / 8
    rw [h0]; omega
  | ⟨1, _⟩ =>
    show 128 * j + (x 1).val = 128 * ((((⟨⟨![j, 0], ![512, 128], ![8, 1], inb⟩, sp⟩ : Rect S4096x128).emb x) 0).val % 8)
      + (((⟨⟨![j, 0], ![512, 128], ![8, 1], inb⟩, sp⟩ : Rect S4096x128).emb x) 1).val
    rw [h0, h1]; omega

/-- Row `y` is among the rows the store of column group `y % 8` writes. -/
theorem row_mem (y : S4096x128.Idx) (j : ℕ) (hj : (y 0).val % 8 = j) (inb) (sp : ∀ a, 0 < (![8, 1] : Fin 2 → ℕ) a) :
    y ∈ (⟨⟨![j, 0], ![512, 128], ![8, 1], inb⟩, sp⟩ : Rect S4096x128).set := by
  rw [LoadRect.mem_set]
  have h0 : (y 0).val < 4096 := (y 0).isLt
  have h1 : (y 1).val < 128 := (y 1).isLt
  intro a
  match a with
  | ⟨0, _⟩ => exact ⟨(y 0).val / 8, (by omega : (y 0).val / 8 < 512), (by omega : (y 0).val = j + 8 * ((y 0).val / 8))⟩
  | ⟨1, _⟩ => exact ⟨(y 1).val, h1, (by omega : (y 1).val = 0 + 1 * (y 1).val)⟩

/-- The eight strided stores of a used block, in the order they are made (the last first), leave `blockOut`. -/
theorem read_groups (v : View sig .tc .vmem S4096x128 .f32) (f : v.ty.Contents (Elt F)) (x0 : Vec F S4096x128 .f32)
    (w0 w1 : Vec F S1024x512 .bf16) (w2 : Vec F S512x1024 .bf16) :
    v.read (Elt F) (v.writes (Elt F) f
      [⟨⟨⟨![7, 0], ![512, 128], ![8, 1], inb_S4096x128_S512x128_7_0_s_8_1⟩, spos_8_1⟩, k0_pay9 (slots x0) (gated x0 w0) w1 w2⟩,
       ⟨⟨⟨![6, 0], ![512, 128], ![8, 1], inb_S4096x128_S512x128_6_0_s_8_1⟩, spos_8_1⟩, k0_pay8 (slots x0) (gated x0 w0) w1 w2⟩,
       ⟨⟨⟨![5, 0], ![512, 128], ![8, 1], inb_S4096x128_S512x128_5_0_s_8_1⟩, spos_8_1⟩, k0_pay7 (slots x0) (gated x0 w0) w1 w2⟩,
       ⟨⟨⟨![4, 0], ![512, 128], ![8, 1], inb_S4096x128_S512x128_4_0_s_8_1⟩, spos_8_1⟩, k0_pay6 (slots x0) (gated x0 w0) w1 w2⟩,
       ⟨⟨⟨![3, 0], ![512, 128], ![8, 1], inb_S4096x128_S512x128_3_0_s_8_1⟩, spos_8_1⟩, k0_pay5 (slots x0) (gated x0 w0) w1 w2⟩,
       ⟨⟨⟨![2, 0], ![512, 128], ![8, 1], inb_S4096x128_S512x128_2_0_s_8_1⟩, spos_8_1⟩, k0_pay4 (slots x0) (gated x0 w0) w1 w2⟩,
       ⟨⟨⟨![1, 0], ![512, 128], ![8, 1], inb_S4096x128_S512x128_1_0_s_8_1⟩, spos_8_1⟩, k0_pay3 (slots x0) (gated x0 w0) w1 w2⟩,
       ⟨⟨⟨![0, 0], ![512, 128], ![8, 1], inb_S4096x128_S512x128_0_0_s_8_1⟩, spos_8_1⟩, k0_pay2 (slots x0) (gated x0 w0) w1 w2⟩])
      = blockOut x0 w0 w1 w2 := by
  funext y
  refine View.read_writes_apply_of_pieces v f (blockOut x0 w0 w1 w2) _ ?_ y ?_
  · simp only [List.forall_mem_cons, List.not_mem_nil, false_imp_iff, implies_true, and_true]
    refine ⟨?_, ?_, ?_, ?_, ?_, ?_, ?_, ?_⟩
    · exact fun x => piece_agrees 7 (by decide) _ _ _ slices_S512x1024_o0_896_S512x128 x
    · exact fun x => piece_agrees 6 (by decide) _ _ _ slices_S512x1024_o0_768_S512x128 x
    · exact fun x => piece_agrees 5 (by decide) _ _ _ slices_S512x1024_o0_640_S512x128 x
    · exact fun x => piece_agrees 4 (by decide) _ _ _ slices_S512x1024_o0_512_S512x128 x
    · exact fun x => piece_agrees 3 (by decide) _ _ _ slices_S512x1024_o0_384_S512x128 x
    · exact fun x => piece_agrees 2 (by decide) _ _ _ slices_S512x1024_o0_256_S512x128 x
    · exact fun x => piece_agrees 1 (by decide) _ _ _ slices_S512x1024_o0_128_S512x128 x
    · exact fun x => piece_agrees 0 (by decide) _ _ _ slices_S512x1024_o0_0_S512x128 x
  · have hlt : (y 0).val % 8 < 8 := Nat.mod_lt _ (by decide)
    have mem := fun j hj inb => row_mem y j hj inb spos_8_1
    simp only [List.exists_mem_cons_iff, List.not_mem_nil, false_and, exists_false, or_false]
    rcases (by omega : (y 0).val % 8 = 7 ∨ (y 0).val % 8 = 6 ∨ (y 0).val % 8 = 5 ∨ (y 0).val % 8 = 4
      ∨ (y 0).val % 8 = 3 ∨ (y 0).val % 8 = 2 ∨ (y 0).val % 8 = 1 ∨ (y 0).val % 8 = 0) with h | h | h | h | h | h | h | h
    · exact .inl (mem 7 h _)
    · exact .inr (.inl (mem 6 h _))
    · exact .inr (.inr (.inl (mem 5 h _)))
    · exact .inr (.inr (.inr (.inl (mem 4 h _))))
    · exact .inr (.inr (.inr (.inr (.inl (mem 3 h _)))))
    · exact .inr (.inr (.inr (.inr (.inr (.inl (mem 2 h _))))))
    · exact .inr (.inr (.inr (.inr (.inr (.inr (.inl (mem 1 h _)))))))
    · exact .inr (.inr (.inr (.inr (.inr (.inr (.inr (mem 0 h _)))))))

/-- Kept weights, read back: the dependent choice the run makes of the buffer's contents is `kept`'s of the values. -/
theorem read_choice {S : Shape} (M : Memref sig .tc .vmem S .bf16) (hM : M.IsWhole) (p : Prop) [Decidable p] (new w old : Vec F S .bf16)
    {off : Fin S.rank → ℕ} (inb : ∀ a, off a + S.size a ≤ S.size a) (hw : w = new) :
    M.view.read (Elt F) (if _h : p then M.view.writes (Elt F) (hM.unread old) [⟨Rect.unit off S.size inb, w⟩] else hM.unread old)
      = if p then new else old := by
  subst hw
  by_cases h : p
  · rw [dif_pos h, if_pos h]
    exact View.read_writes_full _ _ inb w []
  · rw [dif_neg h, if_neg h]
    exact hM.read_unread old

theorem read_choice₂ {S : Shape} (M : Memref sig .tc .vmem S .bf16) (hM : M.IsWhole) (p q : Prop) [Decidable p] [Decidable q]
    (new w old : Vec F S .bf16) {off : Fin S.rank → ℕ} (inb : ∀ a, off a + S.size a ≤ S.size a) (hw : w = new) :
    M.view.read (Elt F) (if _h : p then (if _h : q then M.view.writes (Elt F) (hM.unread old) [⟨Rect.unit off S.size inb, w⟩] else hM.unread old)
        else hM.unread old)
      = if p then (if q then new else old) else old := by
  by_cases h : p
  · rw [dif_pos h, if_pos h]
    exact read_choice M hM q new w old inb hw
  · rw [dif_neg h, if_neg h]
    exact hM.read_unread old

/-- Weights kept from step to step: replaced where the block is used and its expert is another one. -/
abbrev kept {S : Shape} (c : Dev nD) (i : grid0.Coords) (xt0 : TbBuf0 (F := F) c tbM0_0) (xt1 : TbBuf0 (F := F) c tbM0_1)
    (new old : Vec F S .bf16) : Vec F S .bf16 := if Used c i xt1 then if Changed c i xt0 then new else old else old

/-- The result's block after the step. -/
abbrev result (c : Dev nD) (i : grid0.Coords) (xt1 : TbBuf0 (F := F) c tbM0_1) (x0 : Vec F S4096x128 .f32)
    (w0 w1 : Vec F S1024x512 .bf16) (w2 : Vec F S512x1024 .bf16) : Vec F S4096x128 .f32 :=
  if Used c i xt1 then blockOut x0 w0 w1 w2 else k0_pay10

set_option maxHeartbeats 4000000 in
/-- The body, run: the inputs' blocks stay, the kept weights are `kept`, the result's block is `result` at them. -/
theorem run (c : Dev nD) (i : grid0.Coords) (arg3 : Memref sig .tc .vmem S4096x128 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S4096x128 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
    (x0 : Vec F S4096x128 .f32) (x1 : Vec F S1x1x1024x512 .f32) (x2 : Vec F S1x1x1024x512 .f32) (x3 : Vec F S1x1x512x1024 .f32)
    (s0 s1 : Vec F S1024x512 .bf16) (s2 : Vec F S512x1024 .bf16)
    (xt0 : TbBuf0 (F := F) c tbM0_0) (xt1 : TbBuf0 (F := F) c tbM0_1) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ owns (c : Thread nD τ) arg8 fullShare s0 ∗ owns (c : Thread nD τ) arg9 fullShare s1 ∗ owns (c : Thread nD τ) arg10 fullShare s2
        ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (result c i xt1 x0 (kept c i xt0 xt1 (k0_pay11 x1) s0) (kept c i xt0 xt1 (k0_pay12 x2) s1) (kept c i xt0 xt1 (k0_pay13 x3) s2))
            ∗ owns (c : Thread nD τ) arg8 fullShare (kept c i xt0 xt1 (k0_pay11 x1) s0) ∗ owns (c : Thread nD τ) arg9 fullShare (kept c i xt0 xt1 (k0_pay12 x2) s1)
            ∗ owns (c : Thread nD τ) arg10 fullShare (kept c i xt0 xt1 (k0_pay13 x3) s2) ∗ tbPt0 c tbM0_0 xt0 ∗ tbPt0 c tbM0_1 xt1) -∗ K ⟨⟩))
      ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K := by
    simp only [cc0_experts_eq_skeleton]; unfold cc0_experts_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
    obtain rfl := harg3.eq_unread hf0; obtain rfl := harg4.eq_unread hf1; obtain rfl := harg5.eq_unread hf2; obtain rfl := harg6.eq_unread hf3
    obtain rfl := harg8.eq_unread hs0; obtain rfl := harg9.eq_unread hs1; obtain rfl := harg10.eq_unread hs2
    sl_exec
    sl_step
    have eg : ∀ r : LoadRect S4096x128, View.readAt (Elt F) arg3.view r (harg3.unread x0) = fun y => x0 (r.idx y) :=
      fun r => funext fun y => (View.readAt_apply _ _ _).trans (congrFun hf0 _)
    have e4 : k0_pay11 (View.readAt (Elt F) arg4.view (Rect.unit (s := S1x1x1024x512) ![0, 0, 0, 0] S1x1x1024x512.size inb_S1x1x1024x512_S1x1x1024x512_0_0_0_0).toLoadRect
        (harg4.unread x1)) = k0_pay11 x1 := congrArg k0_pay11 ((View.readAt_full _ _ _).trans hf1)
    have e5 : k0_pay12 (View.readAt (Elt F) arg5.view (Rect.unit (s := S1x1x1024x512) ![0, 0, 0, 0] S1x1x1024x512.size inb_S1x1x1024x512_S1x1x1024x512_0_0_0_0).toLoadRect
        (harg5.unread x2)) = k0_pay12 x2 := congrArg k0_pay12 ((View.readAt_full _ _ _).trans hf2)
    have e6 : k0_pay13 (View.readAt (Elt F) arg6.view (Rect.unit (s := S1x1x512x1024) ![0, 0, 0, 0] S1x1x512x1024.size inb_S1x1x512x1024_S1x1x512x1024_0_0_0_0).toLoadRect
        (harg6.unread x3)) = k0_pay13 x3 := congrArg k0_pay13 ((View.readAt_full _ _ _).trans hf3)
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr
      swap; · iexact H4
      ipureintro
      by_cases hu : Used c i xt1
      · have h3 : ¬ k0_cond3 i (usedWord c xt1) = 1#1 := fun h => (cond3_iff i _).mp h hu
        refine (congrArg _ (dif_neg h3)).trans ((congrArg _ (dif_pos hu)).trans (Eq.trans ?_ (if_pos hu).symm))
        have er : run.sl.r_3 c arg3 harg3 x0 = slots x0 := by
          unfold run.sl.r_3; simp only [eg]
        have e0 : run.sl.v29 c i arg4 harg4 arg8 harg8 x1 s0 xt0 = kept c i xt0 xt1 (k0_pay11 x1) s0 :=
          (View.readAt_full _ _ _).trans ((read_choice arg8 harg8 _ _ _ _ _ e4).trans (if_pos hu).symm)
        have e1 : run.sl.v39 c i arg5 harg5 arg9 harg9 x2 s1 xt0 = kept c i xt0 xt1 (k0_pay12 x2) s1 :=
          (View.readAt_full _ _ _).trans ((read_choice arg9 harg9 _ _ _ _ _ e5).trans (if_pos hu).symm)
        have e2 : run.sl.v43 c i arg6 harg6 arg10 harg10 x3 s2 xt0 = kept c i xt0 xt1 (k0_pay13 x3) s2 :=
          (View.readAt_full _ _ _).trans ((read_choice arg10 harg10 _ _ _ _ _ e6).trans (if_pos hu).symm)
        have eh : run.sl.r_4 c i arg3 harg3 arg4 harg4 arg8 harg8 x0 x1 s0 xt0 = gated x0 (kept c i xt0 xt1 (k0_pay11 x1) s0) := by
          unfold run.sl.r_4; simp only [eg, e0]
        rw [er, eh, e1, e2]
        exact read_groups _ _ _ _ _ _
      · have h3 : k0_cond3 i (usedWord c xt1) = 1#1 := (cond3_iff i _).mpr hu
        refine (congrArg _ (dif_pos h3)).trans (Eq.trans ?_ (if_neg hu).symm)
        exact View.read_writes_full _ _ _ _ _
    isplitl [HS0]
    · iexists _; isplitr
      swap; · iexact HS0
      ipureintro
      exact read_choice₂ arg8 harg8 _ _ _ _ _ _ e4
    isplitl [HS1]
    · iexists _; isplitr
      swap; · iexact HS1
      ipureintro
      exact read_choice₂ arg9 harg9 _ _ _ _ _ _ e5
    isplitl [HS2]
    · iexists _; isplitr
      swap; · iexact HS2
      ipureintro
      exact read_choice₂ arg10 harg10 _ _ _ _ _ _ e6
    isplitl [HT0]; · iexact HT0
    iexact HT1

end Cert.Kernel2Ideal.Experts

end
-- ==== Proof.ExpertsFrame.lean ====
/- The experts' call, launched: the invariant of the kept weights from step to step, what each step leaves, the body
   obligation, the run and the frame, under the side condition of the tables. -/
module

public import proofs.«01_k».proof.Proof.ExpertsRun
public import Idealize.ShloMosaic.Lib.Claim

@[expose] public section

set_option maxRecDepth 16384

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The words the tables give -/

/-- The only entry of the table of one word. -/
abbrev one : S1.Idx := ix1 (0 : Fin 1)
/-- A table's entry at grid point `n`. -/
abbrev at160 (n : ℕ) (h : n < 160) : S160.Idx := ix1 (⟨n, h⟩ : Fin 160)

theorem coord_lt (i : grid0.Coords) : (i 0).val < 160 := (i 0).isLt

theorem usedWord_eq (c : Dev nD) (x : IVec S1 32) : usedWord (F := F) c x = x one := by
  refine (View.readAt_apply _ _ _).trans (congrArg x (funext fun a => Fin.ext ?_))
  match a with
  | ⟨0, _⟩ => rfl

theorem expertWord_eq (c : Dev nD) (i : grid0.Coords) (x : IVec S160 32) :
    expertWord (F := F) c i x = x (at160 (i 0).val (coord_lt i)) := by
  refine (View.readAt_apply _ _ _).trans (congrArg x (funext fun a => Fin.ext ?_))
  match a with
  | ⟨0, _⟩ =>
    show (BitVec.ofNat 32 (i 0).val).toNat + 1 * 0 = (i 0).val
    rw [BitVec.toNat_ofNat]; have := coord_lt i; omega

theorem formerWord_eq (c : Dev nD) (i : grid0.Coords) (x : IVec S160 32) :
    formerWord (F := F) c i x = x (at160 ((i 0).val - 1) (lt_of_le_of_lt (Nat.sub_le _ _) (coord_lt i))) := by
  refine (View.readAt_apply _ _ _).trans (congrArg x (funext fun a => Fin.ext ?_))
  match a with
  | ⟨0, _⟩ =>
    show (Scalar.maxsi (Scalar.subi (BitVec.ofNat 32 (i 0).val) 1#32) 0#32).toNat + 1 * 0 = (i 0).val - 1
    have key : ∀ n : Fin 160, (Scalar.maxsi (Scalar.subi (BitVec.ofNat 32 n.val) 1#32) 0#32).toNat + 1 * 0 = n.val - 1 := by
      decide +kernel
    exact key ⟨_, coord_lt i⟩

/-- A block is used exactly where its number is below the number of used blocks. -/
theorem used_iff (c : Dev nD) (i : grid0.Coords) (x : IVec S1 32) :
    Used (F := F) c i x ↔ ((i 0).val : ℤ) < (x one).toInt := by
  unfold Used
  rw [usedWord_eq]
  have hi : (BitVec.ofNat 32 (i 0).val).toInt = ((i 0).val : ℤ) := by
    have key : ∀ n : Fin 160, (BitVec.ofNat 32 n.val).toInt = (n.val : ℤ) := by decide +kernel
    exact key ⟨_, coord_lt i⟩
  unfold k0_cond1
  simp only [Scalar.cmpi, IntOp.cmpi, Scalar.extui]
  rw [← hi]
  generalize BitVec.ofNat 32 (i 0).val = y
  by_cases h : y.toInt < (x one).toInt
  · simp [BitVec.slt, h]
  · simp [BitVec.slt, h]

/-- The word of a condition with two cases, tested. -/
theorem either_word : ∀ a b : BitVec 1, Scalar.cmpi .ne (Scalar.extui (Scalar.ori a b)) 0#32 = 1#1 ↔ a = 1#1 ∨ b = 1#1 := by
  decide

/-- Where the kept weights are not replaced the point is not the first, and its expert is the point before's. -/
theorem same_of_not_changed (c : Dev nD) (i : grid0.Coords) (x : IVec S160 32) (h : ¬ Changed (F := F) c i x) :
    (i 0).val ≠ 0 ∧ x (at160 (i 0).val (coord_lt i))
      = x (at160 ((i 0).val - 1) (lt_of_le_of_lt (Nat.sub_le _ _) (coord_lt i))) := by
  unfold Changed at h
  rw [expertWord_eq, formerWord_eq] at h
  rw [either_word, not_or] at h
  constructor
  · intro h0
    refine h.1 ?_
    rw [show BitVec.ofNat 32 (i 0).val = 0#32 from congrArg (BitVec.ofNat 32) h0]
    decide
  · by_contra huv
    refine h.2 ?_
    revert huv
    generalize x _ = u
    generalize x _ = v
    intro huv
    simp only [Scalar.cmpi, IntOp.cmpi]
    rw [show (u != v) = true from bne_iff_ne.mpr huv]; rfl

variable (m : (ℓ : Loc nD τ sig) → Buf (Elt F) ℓ) (ρ : Dev nD → PrngReg)

attribute [local irreducible] tbl

/-! ## The kept weights from step to step -/

/-- After the points below `n` the kept weights are the roundings of the last of those points' expert, if it was used. -/
def Fresh (hO : Ok m) (c : Dev nD) (n : ℕ) (s0 s1 : Vec F S1024x512 .bf16) (s2 : Vec F S512x1024 .bf16) : Prop :=
  ∀ t : Fin (cfgM m hO).N, t.val + 1 = n → Used (F := F) c (grid0.coords t) (tbl m 1) →
    s0 = k0_pay11 (iblk m hO c 1 t) ∧ s1 = k0_pay12 (iblk m hO c 2 t) ∧ s2 = k0_pay13 (iblk m hO c 3 t)

/-- The region's invariant: the kept weights as `Fresh` says, the generator register, and the tables. -/
def PhiS (hO : Ok m) (c : Dev nD) (n : ℕ) (h : n ≤ (cfgM m hO).N) : sProp 𝕄 :=
  iprop((∃ s0 s1 s2, ⌜Fresh m hO c n s0 s1 s2⌝ ∗ owns (c : Thread nD τ) scM0_0 fullShare s0
      ∗ owns (c : Thread nD τ) scM0_1 fullShare s1 ∗ owns (c : Thread nD τ) scM0_2 fullShare s2)
    ∗ (∃ r, prngReg c r) ∗ tbPt0 c tbM0_0 (tbl m 0) ∗ tbPt0 c tbM0_1 (tbl m 1))

/-- The proof data: each input's block stays; a point leaves `result` at its own expert's rounded weights. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => result c (grid0.coords t) (tbl m 1) (iblk m hO c 0 t) (k0_pay11 (iblk m hO c 1 t)) (k0_pay12 (iblk m hO c 2 t))
        (k0_pay13 (iblk m hO c 3 t))
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t
    = result c (grid0.coords t) (tbl m 1) (iblk m hO c 0 t) (k0_pay11 (iblk m hO c 1 t)) (k0_pay12 (iblk m hO c 2 t))
        (k0_pay13 (iblk m hO c 3 t)) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ### Two points with one expert have one block of each weight -/

theorem coords_val (hO : Ok m) (t : Fin (cfgM m hO).N) : ((grid0.coords t) 0).val = t.val := by
  have : ∀ t : Fin grid0.N, ((grid0.coords t) 0).val = t.val := by decide +kernel
  exact this t

/-- An expert's block index, the same for the three weights. -/
theorem word_at (pf : pre0.Contents (Elt F)) (i : grid0.Coords) :
    pf.at 0 (Rect.unit (s := S160) (k0_off1 i) S1.size (k0_off1_inb i)) numel1_S1
      = (pf 0 : IVec S160 32) (at160 (i 0).val (coord_lt i)) := by
  refine congrArg (pf 0 : IVec S160 32) (funext fun a => Fin.ext ?_)
  match a with
  | ⟨0, _⟩ =>
    show (BitVec.ofNat 32 (i 0).val).toNat + 1 * 0 = (i 0).val
    rw [BitVec.toNat_ofNat]; have := coord_lt i; omega

theorem transform_1_eq (pf : pre0.Contents (Elt F)) (i : grid0.Coords) :
    cc0_transform_1 k0_off1_inb numel1_S1 pf i = ![0, ((pf 0 : IVec S160 32) (at160 (i 0).val (coord_lt i))).toNat, 0, 0] := by
  exact congrArg (fun w : BitVec 32 => ![0, w.toNat, 0, 0]) (word_at pf i)
theorem transform_2_eq (pf : pre0.Contents (Elt F)) (i : grid0.Coords) :
    cc0_transform_2 k0_off1_inb numel1_S1 pf i = ![0, ((pf 0 : IVec S160 32) (at160 (i 0).val (coord_lt i))).toNat, 0, 0] := by
  exact congrArg (fun w : BitVec 32 => ![0, w.toNat, 0, 0]) (word_at pf i)
theorem transform_3_eq (pf : pre0.Contents (Elt F)) (i : grid0.Coords) :
    cc0_transform_3 k0_off1_inb numel1_S1 pf i = ![0, ((pf 0 : IVec S160 32) (at160 (i 0).val (coord_lt i))).toNat, 0, 0] := by
  exact congrArg (fun w : BitVec 32 => ![0, w.toNat, 0, 0]) (word_at pf i)

theorem fetched1 (hO : Ok m) (c : Dev nD) (t : Fin (cfgM m hO).N) (d) : (dats m hO 0 c).fetched 1 t d = iblk m hO c 1 t := by
  unfold Dat.fetched Dat.blockOf iblk; rw [A_eq]; try rfl
theorem fetched2 (hO : Ok m) (c : Dev nD) (t : Fin (cfgM m hO).N) (d) : (dats m hO 0 c).fetched 2 t d = iblk m hO c 2 t := by
  unfold Dat.fetched Dat.blockOf iblk; rw [A_eq]; try rfl
theorem fetched3 (hO : Ok m) (c : Dev nD) (t : Fin (cfgM m hO).N) (d) : (dats m hO 0 c).fetched 3 t d = iblk m hO c 3 t := by
  unfold Dat.fetched Dat.blockOf iblk; rw [A_eq]; try rfl
theorem iblk1_congr (hO : Ok m) (c : Dev nD) (t t' : Fin (cfgM m hO).N)
    (h : cc0_transform_1 k0_off1_inb numel1_S1 (tbl m) (grid0.coords t) = cc0_transform_1 k0_off1_inb numel1_S1 (tbl m) (grid0.coords t')) :
    (iblk m hO c 1 t : Vec F S1x1x1024x512 .f32) = iblk m hO c 1 t' :=
  (fetched1 m hO c t (iblk m hO c 1 t)).symm.trans (((dats m hO 0 c).fetched_congr 1 (t := t) (t' := t') h rfl _).trans
    (fetched1 m hO c t' (iblk m hO c 1 t)))
theorem iblk2_congr (hO : Ok m) (c : Dev nD) (t t' : Fin (cfgM m hO).N)
    (h : cc0_transform_2 k0_off1_inb numel1_S1 (tbl m) (grid0.coords t) = cc0_transform_2 k0_off1_inb numel1_S1 (tbl m) (grid0.coords t')) :
    (iblk m hO c 2 t : Vec F S1x1x1024x512 .f32) = iblk m hO c 2 t' :=
  (fetched2 m hO c t (iblk m hO c 2 t)).symm.trans (((dats m hO 0 c).fetched_congr 2 (t := t) (t' := t') h rfl _).trans
    (fetched2 m hO c t' (iblk m hO c 2 t)))
theorem iblk3_congr (hO : Ok m) (c : Dev nD) (t t' : Fin (cfgM m hO).N)
    (h : cc0_transform_3 k0_off1_inb numel1_S1 (tbl m) (grid0.coords t) = cc0_transform_3 k0_off1_inb numel1_S1 (tbl m) (grid0.coords t')) :
    (iblk m hO c 3 t : Vec F S1x1x512x1024 .f32) = iblk m hO c 3 t' :=
  (fetched3 m hO c t (iblk m hO c 3 t)).symm.trans (((dats m hO 0 c).fetched_congr 3 (t := t) (t' := t') h rfl _).trans
    (fetched3 m hO c t' (iblk m hO c 3 t)))

/-- At a used point the kept weights become the roundings of the point's expert, replaced or not. -/
theorem kept_fresh (hO : Ok m) (c : Dev nD) (t : Fin (cfgM m hO).N) (s0 s1 : Vec F S1024x512 .bf16) (s2 : Vec F S512x1024 .bf16)
    (hf : Fresh m hO c t.val s0 s1 s2) (hu : Used (F := F) c (grid0.coords t) (tbl m 1)) :
    kept c (grid0.coords t) (tbl m 0) (tbl m 1) (k0_pay11 (iblk m hO c 1 t)) s0 = k0_pay11 (iblk m hO c 1 t)
    ∧ kept c (grid0.coords t) (tbl m 0) (tbl m 1) (k0_pay12 (iblk m hO c 2 t)) s1 = k0_pay12 (iblk m hO c 2 t)
    ∧ kept c (grid0.coords t) (tbl m 0) (tbl m 1) (k0_pay13 (iblk m hO c 3 t)) s2 = k0_pay13 (iblk m hO c 3 t) := by
  unfold kept
  rw [if_pos hu, if_pos hu, if_pos hu]
  by_cases hc : Changed (F := F) c (grid0.coords t) (tbl m 0)
  · rw [if_pos hc, if_pos hc, if_pos hc]; exact ⟨rfl, rfl, rfl⟩
  · rw [if_neg hc, if_neg hc, if_neg hc]
    obtain ⟨hz, hs⟩ := same_of_not_changed (F := F) c _ _ hc
    have ht : ((grid0.coords t) 0).val = t.val := coords_val m hO t
    let t' : Fin (cfgM m hO).N := ⟨t.val - 1, lt_of_le_of_lt (Nat.sub_le _ _) t.isLt⟩
    have ht' : ((grid0.coords t') 0).val = t.val - 1 := coords_val m hO t'
    have hw : (tbl m 0 : IVec S160 32) (at160 ((grid0.coords t) 0).val (coord_lt _))
        = (tbl m 0 : IVec S160 32) (at160 ((grid0.coords t') 0).val (coord_lt _)) := by
      refine hs.trans (congrArg (tbl m 0 : IVec S160 32) ?_)
      unfold at160
      congr 2
      rw [ht, ht']
    have hu' : Used (F := F) c (grid0.coords t') (tbl m 1) := by
      have hlt := (used_iff (F := F) c (grid0.coords t) (tbl m 1)).mp hu
      refine (used_iff (F := F) c (grid0.coords t') (tbl m 1)).mpr (lt_of_le_of_lt ?_ hlt)
      rw [ht, ht']
      omega
    obtain ⟨e0, e1, e2⟩ := hf t' (by show t.val - 1 + 1 = t.val; rw [ht] at hz; omega) hu'
    refine ⟨e0.trans (congrArg k0_pay11 (iblk1_congr m hO c t' t ?_)), e1.trans (congrArg k0_pay12 (iblk2_congr m hO c t' t ?_)),
      e2.trans (congrArg k0_pay13 (iblk3_congr m hO c t' t ?_))⟩
    · rw [transform_1_eq, transform_1_eq, hw]
    · rw [transform_2_eq, transform_2_eq, hw]
    · rw [transform_3_eq, transform_3_eq, hw]

/-- So what the run leaves in the result's block is the point's own, -/
theorem result_fresh (hO : Ok m) (c : Dev nD) (t : Fin (cfgM m hO).N) (s0 s1 : Vec F S1024x512 .bf16) (s2 : Vec F S512x1024 .bf16)
    (hf : Fresh m hO c t.val s0 s1 s2) :
    result c (grid0.coords t) (tbl m 1) (iblk m hO c 0 t) (kept c (grid0.coords t) (tbl m 0) (tbl m 1) (k0_pay11 (iblk m hO c 1 t)) s0)
      (kept c (grid0.coords t) (tbl m 0) (tbl m 1) (k0_pay12 (iblk m hO c 2 t)) s1)
      (kept c (grid0.coords t) (tbl m 0) (tbl m 1) (k0_pay13 (iblk m hO c 3 t)) s2)
    = result c (grid0.coords t) (tbl m 1) (iblk m hO c 0 t) (k0_pay11 (iblk m hO c 1 t)) (k0_pay12 (iblk m hO c 2 t))
        (k0_pay13 (iblk m hO c 3 t)) := by
  by_cases hu : Used (F := F) c (grid0.coords t) (tbl m 1)
  · obtain ⟨e0, e1, e2⟩ := kept_fresh m hO c t s0 s1 s2 hf hu
    rw [e0, e1, e2]
  · unfold result; rw [if_neg hu, if_neg hu]

/-- and the kept weights are as the invariant says after the point. -/
theorem fresh_succ (hO : Ok m) (c : Dev nD) (t : Fin (cfgM m hO).N) (s0 s1 : Vec F S1024x512 .bf16) (s2 : Vec F S512x1024 .bf16)
    (hf : Fresh m hO c t.val s0 s1 s2) :
    Fresh m hO c (t.val + 1) (kept c (grid0.coords t) (tbl m 0) (tbl m 1) (k0_pay11 (iblk m hO c 1 t)) s0)
      (kept c (grid0.coords t) (tbl m 0) (tbl m 1) (k0_pay12 (iblk m hO c 2 t)) s1)
      (kept c (grid0.coords t) (tbl m 0) (tbl m 1) (k0_pay13 (iblk m hO c 3 t)) s2) := by
  intro u hu hused
  obtain rfl : u = t := Fin.ext (Nat.succ.inj hu)
  exact kept_fresh m hO c u s0 s1 s2 hf hused

/-! ## The body obligation -/

/-- What the body is called with at point `t`, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))
/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 1600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.succ = PhiS m hO c (t.val + 1) t.isLt from rfl, PhiS_castSucc m hO c t]
  unfold PhiS
  iintro ⟨⟨⟨%s0, %s1, %s2, %hf, HS0, HS1, HS2⟩, Hg, HT0, HT1⟩, Ho, ⟨%d0, H0⟩, ⟨%d1, H1⟩, ⟨%d2, H2⟩, ⟨%d3, H3⟩, ⟨%d4, H4⟩⟩
  rw [← result_fresh m hO c t s0 s1 s2 hf]
  iapply (run c (grid0.coords t) (ms0_0 m hO t) (hs0_0 m hO t) (ms0_1 m hO t) (hs0_1 m hO t) (ms0_2 m hO t) (hs0_2 m hO t) (ms0_3 m hO t) (hs0_3 m hO t)
    (ms0_4 m hO t) (hs0_4 m hO t) scM0_0 (Memref.isWhole_whole _) scM0_1 (Memref.isWhole_whole _) scM0_2 (Memref.isWhole_whole _)
    (iblk m hO c 0 t) (iblk m hO c 1 t) (iblk m hO c 2 t) (iblk m hO c 3 t) s0 s1 s2 (tbl m 0) (tbl m 1) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  iintro ⟨H0, H1, H2, H3, H4, HS0, HS1, HS2, HT0, HT1⟩
  isplitl [HS0 HS1 HS2 Hg HT0 HT1]
  · isplitl [HS0 HS1 HS2]
    · iexists _; iexists _; iexists _
      isplitr
      · ipureintro; exact fresh_succ m hO c t s0 s1 s2 hf
      isplitl [HS0]; · iexact HS0
      isplitl [HS1]; · iexact HS1
      iexact HS2
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The result's block is stored at every point, in one branch or the other. -/
theorem busy (pf : pre0.Contents (Elt F)) (i : grid0.Coords) : idle0 pf 4 i = false := by
  show (!(k0_cond1 i (pf.atD 1 ![0]) == 1#1) && !(k0_cond3 i (pf.atD 1 ![0]) == 1#1)) = false
  by_cases h : k0_cond1 i (pf.atD 1 ![0]) = 1#1
  · simp [h]
  · simp [(cond3_iff i _).mpr h]

theorem body_obligation (hO : Ok m) (c : Dev nD) : BodyObligation (dats (F := F) m hO 0 c) (defs₀ (F := F)) Variants.none () Set.univ := fun t => by
  rw [bigSep_W0, bigSep_W0, defs₀_row m hO]
  have hb : idle0 (tbl m) 4 ((pcfg0.gridAt (tbl m)).coords t) = false := busy (tbl m) _
  simp only [hb]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiA0_eq, PhiT0_eq]
  unfold PhiS
  iintro ⟨⟨⟨⟨%s0, HS0⟩, ⟨%s1, HS1⟩, ⟨%s2, HS2⟩⟩, Hg⟩, HT0, HT1⟩
  isplitl [HS0 HS1 HS2]
  · iexists s0; iexists s1; iexists s2
    isplitr
    · ipureintro; exact fun t ht => absurd ht (Nat.succ_ne_zero _)
    isplitl [HS0]; · iexact HS0
    isplitl [HS1]; · iexact HS1
    iexact HS2
  isplitl [Hg]; · iexact Hg
  isplitl [HT0]; · iexact HT0
  iexact HT1

theorem Phi_out (hO : Ok m) (c : Dev nD) (t : Fin ((cfgM m hO).N + 1)) : (dats m hO 0 c).Φ t ⊢ Pipeline.ΦA spec0 c := by
  rw [show (dats m hO 0 c).Φ t = PhiS m hO c t.val (Nat.le_of_lt_succ t.isLt) from rfl, PhiA0_eq]
  unfold PhiS
  iintro ⟨⟨%s0, %s1, %s2, %hf, HS0, HS1, HS2⟩, Hg, -, -⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := fun c => Phi_out m hO c _)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The frame, under the tables' side condition. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (dats m hO) (A_eq m hO) (run_main m ρ hO)) ((θ_run defs _ _).mono (fun _ h => h.2) (run_main_quiescent m ρ hO))

end Cert.Kernel2Ideal.Experts

end
-- ==== Proof.ExpertsPlan.lean ====
/- The plan of the experts' call: the tables the host prepares from the counts. `endsOf` are the running ends of the
   experts' slots (each expert's count rounded up to whole blocks), `usedOf` the number of blocks that hold slots, and
   `expertsAt` the expert of the block that begins at a given row: the number of experts whose slots end at or before
   it. An expert so found is one of the 32; the row of a block past the last used one is that of the last used one;
   and where some block is used, every block the launch asks for lies in its array. -/
module

public import proofs.«01_k».proof.Proof.ExpertsFrame
public import proofs.«01_k».proof.Proof.Gen.Pre_some_slot_is_used
public import Idealize.ShloMosaic.Lib.StableHlo.Predicate

@[expose] public section

set_option maxRecDepth 16384

noncomputable section

namespace Cert.Kernel2Ideal.Experts

open Cert.Kernel2Ideal.Gen
open Idealize.ShloMosaic Idealize.ShloMosaic.TcCoe Idealize.ShloMosaic.Tactic
open Idealize.ShloMosaic.StableHlo.Predicate (ij)

variable {F : FTy → Type} [FloatOps F]

/-! ## The tables, as functions of the counts -/

/-- The running ends of the experts' slots: the precondition's own lines for them. -/
abbrev endsOf (counts : FVec F S1x128 .f32) : IVec S32 32 :=
  Cert.Pre_some_slot_is_used.fn_cumsum (F := F) (muli (Cert.Pre_some_slot_is_used.fn_floor_divide (F := F)
    (subi (addi (fptosi 32 (shapeCast S32 (extractStridedSlice S1x32 ![0, 0] counts slices_S1x128_S1x32_0_0) shapeCasts_S1x32_S32))
      (broadcastInDim S32 ![] bcast_S_S32 (constantI S_ 32 512#32))) (broadcastInDim S32 ![] bcast_S_S32 (constantI S_ 32 1#32)))
    (constantI S_ 32 512#32)) (broadcastInDim S32 ![] bcast_S_S32 (constantI S_ 32 512#32)))

/-- The number of blocks that hold slots: the last end, in blocks. -/
abbrev usedOf (ends : IVec S32 32) : IVec S_ 32 :=
  Cert.Pre_some_slot_is_used.fn_floor_divide_1 (F := F)
    (shapeCast S_ (extractStridedSlice S1 ![31] ends slices_S32_S1_31) shapeCasts_S1_S_) (constantI S_ 32 512#32)

/-- The expert of the block that begins at row `rows b`: how many experts' slots end at or before it, the last expert at most. -/
abbrev expertsAt (ends : IVec S32 32) (rows : IVec S160 32) : IVec S160 32 :=
  minsi (Host.reduce IntOp.addi (extui 32 (cmpi .sle
      (broadcastInDim S160x32 ![0, 1] bcast_S1x32_S160x32_0_1 (broadcastInDim S1x32 ![1] bcast_S32_S1x32_1 ends))
      (broadcastInDim S160x32 ![0, 1] bcast_S160x1_S160x32_0_1 (broadcastInDim S160x1 ![0] bcast_S160_S160x1_0 rows))) natLt_1_32)
      (constantI S_ 32 0#32) reducesTo_S160x32_S160_d1 h_S_)
    (broadcastInDim S160 ![] bcast_S_S160 (constantI S_ 32 31#32))

/-- The first rows of the kernel's blocks, those past the last used one beginning where it does. -/
abbrev rowsOf (used : IVec S_ 32) : IVec S160 32 :=
  muli (minsi (iotaInDim S160 32 0) (broadcastInDim S160 ![] bcast_S_S160 (subi used (constantI S_ 32 1#32))))
    (broadcastInDim S160 ![] bcast_S_S160 (constantI S_ 32 512#32))

/-! ## What the launch finds -/

variable (m : (ℓ : Loc nD τ sig) → Buf (Elt F) ℓ)

/-- The counts' argument array of core `c`. -/
abbrev countsOf (c : Dev nD) : FVec F S1x128 .f32 := m ((c : Thread nD τ).loc main_arg0)

theorem V_ends (c : Dev nD) : V m c main_v10 = endsOf (countsOf m c) := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.nullary, StableHlo.TRef.ternary, StableHlo.TRef.toBuf, StableHlo.TRef.ofBuf, cast_eq]
  after_results
  all_goals rfl

theorem V_used (c : Dev nD) : V m c main_v29 = shapeCast S1 (usedOf (F := F) (endsOf (countsOf m c))) shapeCasts_S_S1 := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.nullary, StableHlo.TRef.ternary, StableHlo.TRef.toBuf, StableHlo.TRef.ofBuf, cast_eq]
  after_results
  all_goals rfl

theorem V_experts (c : Dev nD) : V m c main_v28 = expertsAt (endsOf (countsOf m c)) (rowsOf (usedOf (F := F) (endsOf (countsOf m c)))) := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.nullary, StableHlo.TRef.ternary, StableHlo.TRef.toBuf, StableHlo.TRef.ofBuf, cast_eq]
  after_results
  all_goals rfl

/-! ## The words of the tables -/

theorem minsi_last {w : BitVec 32} (h : w.toNat ≤ 32) : (IntOp.minsi w 31#32).toNat ≤ 31 ∧ 0 ≤ (IntOp.minsi w 31#32).toInt := by
  have key : ∀ n : Fin 33, (IntOp.minsi (BitVec.ofNat 32 n.val) 31#32).toNat ≤ 31 ∧ 0 ≤ (IntOp.minsi (BitVec.ofNat 32 n.val) 31#32).toInt := by
    decide +kernel
  have := key ⟨w.toNat, by omega⟩
  simpa using this

/-- A block's number, as an index of the tables. -/
theorem ofFin_eta (b : S160.Idx) : ∃ p : Fin 160, b = Shape.Idx.ofFin p := by
  refine ⟨b 0, ?_⟩
  funext a
  have ha : a = 0 := Subsingleton.elim _ _
  subst ha
  rfl

theorem count_eq (ends : IVec S32 32) (rows : IVec S160 32) (p : Fin 160) :
    (Host.reduce IntOp.addi (extui 32 (cmpi .sle
      (broadcastInDim S160x32 ![0, 1] bcast_S1x32_S160x32_0_1 (broadcastInDim S1x32 ![1] bcast_S32_S1x32_1 ends))
      (broadcastInDim S160x32 ![0, 1] bcast_S160x1_S160x32_0_1 (broadcastInDim S160x1 ![0] bcast_S160_S160x1_0 rows))) natLt_1_32)
      (constantI S_ 32 0#32) reducesTo_S160x32_S160_d1 h_S_ (Shape.Idx.ofFin p)).toNat
      = (Finset.univ.filter fun q : Fin 32 => IntOp.cmpi .sle (ends (Shape.Idx.ofFin q)) (rows (Shape.Idx.ofFin p)) = 1#1).card := by
  rw [StableHlo.Predicate.toNat_reduce_count_cols (by norm_num)]
  refine congrArg Finset.card (Finset.filter_congr fun q _ => ?_)
  refine iff_of_eq (congrArg (· = 1#1) (congrArg₂ (IntOp.cmpi .sle) ?_ ?_))
  · exact StableHlo.Predicate.bcast_cols bcast_S32_S1x32_1 bcast_S1x32_S160x32_0_1 ends p q
  · exact StableHlo.Predicate.bcast_rows bcast_S160_S160x1_0 bcast_S160x1_S160x32_0_1 rows p q

/-- The expert of a block is one of the 32. -/
theorem experts_lt (ends : IVec S32 32) (rows : IVec S160 32) (b : S160.Idx) :
    (expertsAt ends rows b).toNat ≤ 31 ∧ 0 ≤ (expertsAt ends rows b).toInt := by
  obtain ⟨p, rfl⟩ := ofFin_eta b
  refine minsi_last ?_
  rw [count_eq]
  exact (Finset.card_filter_le _ _).trans (by simp)

/-- It depends on the row the block begins at alone. -/
theorem experts_congr (ends : IVec S32 32) {rows rows' : IVec S160 32} (b : S160.Idx) (h : rows b = rows' b) :
    expertsAt ends rows b = expertsAt ends rows' b := by
  obtain ⟨p, rfl⟩ := ofFin_eta b
  refine congrArg (fun w => IntOp.minsi w 31#32) (BitVec.eq_of_toNat_eq ?_)
  rw [count_eq, count_eq, h]

/-- The block the slots of block `n` are taken from: itself where it is used, the last used one where it is not. -/
theorem block_word {u : BitVec 32} (hu : 1 ≤ u.toInt) (n : Fin 160) :
    (IntOp.minsi (BitVec.ofNat 32 n.val) (u - 1#32)).toNat ≤ 159 ∧
      ((n.val : ℤ) < u.toInt → IntOp.minsi (BitVec.ofNat 32 n.val) (u - 1#32) = BitVec.ofNat 32 n.val) := by
  have hn : (BitVec.ofNat 32 n.val).toInt = (n.val : ℤ) := by
    have := n.isLt
    rw [BitVec.toInt_eq_toNat_cond, BitVec.toNat_ofNat, Nat.mod_eq_of_lt (by omega), if_pos (by omega)]
  have hnn : (BitVec.ofNat 32 n.val).toNat = n.val := by
    have := n.isLt
    rw [BitVec.toNat_ofNat, Nat.mod_eq_of_lt (by omega)]
  have hu2 : u.toNat < 2 ^ 31 ∧ u.toInt = (u.toNat : ℤ) := by
    have := u.isLt
    rw [BitVec.toInt_eq_toNat_cond] at hu ⊢
    split at hu <;> constructor <;> first | omega | (split <;> omega)
  have hs : (u - 1#32).toNat = u.toNat - 1 := by
    rw [BitVec.toNat_sub]; simp; omega
  have hsi : (u - 1#32).toInt = (u.toNat : ℤ) - 1 := by
    rw [BitVec.toInt_eq_toNat_cond, hs, if_pos (by omega)]; omega
  unfold IntOp.minsi
  by_cases h : (n.val : ℤ) < (u.toNat : ℤ) - 1
  · have : (BitVec.ofNat 32 n.val).slt (u - 1#32) = true := by
      rw [BitVec.slt_iff_toInt_lt, hn, hsi]; exact h
    rw [if_pos this, hnn]
    exact ⟨by omega, fun _ => rfl⟩
  · have : ¬ (BitVec.ofNat 32 n.val).slt (u - 1#32) = true := by
      rw [BitVec.slt_iff_toInt_lt, hn, hsi]; exact h
    rw [if_neg this, hs]
    refine ⟨by omega, fun hlt => BitVec.eq_of_toNat_eq ?_⟩
    rw [hs, hnn]; omega

/-! ## The precondition's own reading -/

theorem toInt_of_sge {u : BitVec 32} (h : IntOp.cmpi .sge u 1#32 = 1#1) : 1 ≤ u.toInt := by
  unfold IntOp.cmpi at h
  have h' : (1#32).sle u = true := (WordCmp.ofBool_eq_one_iff _).mp h
  rw [BitVec.sle_iff_toInt_le] at h'
  exact h'

/-- Where the precondition holds some block is used. -/
theorem used_of_pre {a0 : FVec F S1x128 .f32} {a1 : FVec F S655360x128 .f32} {a2 a3 : FVec F S2x32x1024x512 .f32} {a4 : FVec F S2x32x512x1024 .f32}
    (h : Cert.Pre_some_slot_is_used.fn (F := F) a0 a1 a2 a3 a4 = fun _ => 1#1) (j : S_.Idx) : 1 ≤ (usedOf (F := F) (endsOf a0) j).toInt :=
  toInt_of_sge (congrFun h j)

/-- The count of used blocks, and the expert of a block, as the tables hold them. -/
abbrev usedIn (pf : pre0.Contents (Elt F)) : BitVec 32 := (pf 1 : IVec S1 32) one
abbrev expertIn (pf : pre0.Contents (Elt F)) (i : grid0.Coords) : BitVec 32 := (pf 0 : IVec S160 32) (at160 (i 0).val (coord_lt i))

theorem used_word (pf : pre0.Contents (Elt F)) :
    pf.at 1 (Rect.unit (s := S1) ![0] S1.size inb_S1_S1_0) numel1_S1 = usedIn pf := by
  refine congrArg (pf 1 : IVec S1 32) (funext fun a => Fin.ext ?_)
  match a with
  | ⟨0, _⟩ => rfl

/-- The block of the slots at a grid point. -/
theorem transform_0_eq (pf : pre0.Contents (Elt F)) (i : grid0.Coords) :
    cc0_transform_0 inb_S1_S1_0 numel1_S1 pf i = ![(IntOp.minsi (BitVec.ofNat 32 (i 0).val) (usedIn pf - 1#32)).toNat, 0] :=
  congrArg (fun w : BitVec 32 => ![(IntOp.minsi (BitVec.ofNat 32 (i 0).val) (w - 1#32)).toNat, 0]) (used_word pf)

theorem inside0 {n : ℕ} (h : n ≤ 159) : ∀ a, ((![n, 0] : Fin 2 → ℕ) a + 1) * S4096x128.size a ≤ S655360x128.size a := by
  intro a
  match a with
  | ⟨0, _⟩ =>
    show (n + 1) * 4096 ≤ 655360
    omega
  | ⟨1, _⟩ => show (0 + 1) * 128 ≤ 128; norm_num
theorem inside1 {n : ℕ} (h : n ≤ 31) : ∀ a, ((![0, n, 0, 0] : Fin 4 → ℕ) a + 1) * S1x1x1024x512.size a ≤ S2x32x1024x512.size a := by
  intro a
  match a with
  | ⟨0, _⟩ => show (0 + 1) * 1 ≤ 2; norm_num
  | ⟨1, _⟩ => show (n + 1) * 1 ≤ 32; omega
  | ⟨2, _⟩ => show (0 + 1) * 1024 ≤ 1024; norm_num
  | ⟨3, _⟩ => show (0 + 1) * 512 ≤ 512; norm_num
theorem inside3 {n : ℕ} (h : n ≤ 31) : ∀ a, ((![0, n, 0, 0] : Fin 4 → ℕ) a + 1) * S1x1x512x1024.size a ≤ S2x32x512x1024.size a := by
  intro a
  match a with
  | ⟨0, _⟩ => show (0 + 1) * 1 ≤ 2; norm_num
  | ⟨1, _⟩ => show (n + 1) * 1 ≤ 32; omega
  | ⟨2, _⟩ => show (0 + 1) * 512 ≤ 512; norm_num
  | ⟨3, _⟩ => show (0 + 1) * 1024 ≤ 1024; norm_num

/-- Tables that name one of the 32 experts at every point and count at least one used block keep every block inside
    its array. -/
theorem ok_of_words (pf : pre0.Contents (Elt F)) (hu : 1 ≤ (usedIn pf).toInt)
    (he : ∀ i : grid0.Coords, (expertIn pf i).toNat ≤ 31) : ok0 pf := by
  refine ⟨fun i => ⟨?_, Or.inl rfl⟩, fun i => ⟨?_, Or.inl rfl⟩, fun i => ⟨?_, Or.inl rfl⟩, fun i => ⟨?_, Or.inl rfl⟩⟩
  · rw [transform_0_eq]
    exact inside0 (block_word hu ⟨(i 0).val, coord_lt i⟩).1
  · rw [transform_1_eq]; exact inside1 (he i)
  · rw [transform_2_eq]; exact inside1 (he i)
  · rw [transform_3_eq]; exact inside3 (he i)

abbrev at_ : S_.Idx := fun a => a.elim0

/-- The tables the launch finds. -/
theorem tbl_experts (i : grid0.Coords) :
    expertIn (tbl m) i = expertsAt (endsOf (countsOf m 0)) (rowsOf (usedOf (F := F) (endsOf (countsOf m 0)))) (at160 (i 0).val (coord_lt i)) :=
  congrFun (V_experts m 0) _

theorem tbl_used : usedIn (tbl m) = usedOf (F := F) (endsOf (countsOf m 0)) at_ :=
  (congrFun (V_used m 0) one).trans (congrArg (usedOf (F := F) (endsOf (countsOf m 0))) (funext fun a => a.elim0))

/-- Where some block is used the launch's side condition holds. -/
theorem ok_of_used (h : 1 ≤ (usedOf (F := F) (endsOf (countsOf m 0)) at_).toInt) : Ok m := by
  refine ok_of_words (tbl m) ?_ fun i => ?_
  · rw [tbl_used]; exact h
  · rw [tbl_experts]; exact (experts_lt _ _ _).1

end Cert.Kernel2Ideal.Experts
-- ==== Proof.ExpertsTerm.lean ====
/- One element of the experts' result, as a function of the slot's row `s` and the expert's weights: the up projection
   times the activated gate projection, projected down by the column `wd`. -/
module

public import proofs.«01_k».proof.Proof.ExpertsPlan
public import Idealize.ShloMosaic.Lib.Pipeline.ValueKit
public import Idealize.ShloMosaic.Lib.KernelVsHost

@[expose] public section

noncomputable section

namespace Cert.Kernel2Ideal.Experts

open Idealize.ShloMosaic

/-- The constant one of the activation. -/
abbrev unit : EReal := FloatOps.ofBits (F := Ideal) .f32 0x3F800000#32

/-- The activation: g / (1 + exp (-g)), as a product. -/
def act (g : EReal) : EReal := g * Ideal.div unit (unit + Ideal.exp (-g))

/-- One element of the result. -/
def cell (s : Fin 1024 → EReal) (wg wu : Fin 1024 → Fin 512 → EReal) (wd : Fin 512 → EReal) : EReal :=
  ∑ k : Fin 512, (act (∑ j : Fin 1024, s j * wg j k) * ∑ j : Fin 1024, s j * wu j k) * wd k

/-- Equal rows and weights, equal elements. -/
theorem cell_congr {s s' : Fin 1024 → EReal} {wg wg' wu wu' : Fin 1024 → Fin 512 → EReal} {wd wd' : Fin 512 → EReal}
    (h0 : ∀ j, s j = s' j) (h1 : ∀ j k, wg j k = wg' j k) (h2 : ∀ j k, wu j k = wu' j k) (h3 : ∀ k, wd k = wd' k) :
    cell s wg wu wd = cell s' wg' wu' wd' := by
  obtain rfl : s = s' := funext h0
  obtain rfl : wg = wg' := funext fun j => funext (h1 j)
  obtain rfl : wu = wu' := funext fun j => funext (h2 j)
  obtain rfl : wd = wd' := funext h3
  rfl

end Cert.Kernel2Ideal.Experts

end
-- ==== Proof.ExpertsCells.lean ====
/- What the experts' body computes, element by element: the row of a slot gathered from its eight lanes' rows, the two
   projections, the activation and the projection down, as the one term `cell`. -/
module

public import proofs.«01_k».proof.Proof.ExpertsTerm

@[expose] public section

set_option maxRecDepth 16384

noncomputable section

namespace Cert.Kernel2Ideal.Experts

open Cert.Kernel2Ideal.Gen
open Idealize.ShloMosaic Idealize.ShloMosaic.TcCoe Idealize.ShloMosaic.Tactic

/-- Where entry `j` of slot `p` lies in the block: row 8 p + j / 128, lane j % 128. -/
abbrev foldRow (p : Fin 512) (j : Fin 1024) : S4096x128.Idx :=
  ix2 (⟨8 * p.val + j.val / 128, by omega⟩ : Fin 4096) (⟨j.val % 128, Nat.mod_lt _ (by decide)⟩ : Fin 128)

/-- A group's entry. -/
theorem group_at (x0 : Vec Ideal S4096x128 .f32) (g : ℕ) (inb) (p : Fin 512) (j : Fin 1024) (hg : j.val / 128 = g) :
    group x0 g inb (ix2 p (⟨j.val % 128, Nat.mod_lt _ (by decide)⟩ : Fin 128)) = x0 (foldRow p j) := by
  refine congrArg x0 (funext fun a => Fin.ext ?_)
  match a with
  | ⟨0, _⟩ => show g + 8 * p.val = 8 * p.val + j.val / 128; omega
  | ⟨1, _⟩ => show 0 + 1 * (j.val % 128) = j.val % 128; omega

/-- Eight column groups, as the concatenation lists them. -/
abbrev eight (v0 v1 v2 v3 v4 v5 v6 v7 : S512x128.Idx → EReal) : List ((s : Shape) × (s.Idx → EReal)) :=
  [⟨S512x128, v0⟩, ⟨S512x128, v1⟩, ⟨S512x128, v2⟩, ⟨S512x128, v3⟩, ⟨S512x128, v4⟩, ⟨S512x128, v5⟩, ⟨S512x128, v6⟩, ⟨S512x128, v7⟩]

/-- Eight column groups side by side, read at an index: the group that holds the column. -/
theorem groups_at (v0 v1 v2 v3 v4 v5 v6 v7 : S512x128.Idx → EReal) (p : Fin 512) (j : Fin 1024) (g : ℕ) (v : S512x128.Idx → EReal)
    (hv : [v0, v1, v2, v3, v4, v5, v6, v7][g]? = some v) (hg : j.val / 128 = g) :
    concatenate S512x1024 1 [⟨S512x128, v0⟩, ⟨S512x128, v1⟩, ⟨S512x128, v2⟩, ⟨S512x128, v3⟩, ⟨S512x128, v4⟩, ⟨S512x128, v5⟩, ⟨S512x128, v6⟩, ⟨S512x128, v7⟩] concatenates_S512x128_S512x128_S512x128_S512x128_S512x128_S512x128_S512x128_S512x128_S512x1024_d1 (ix2 p j)
      = v (ix2 p (⟨j.val % 128, Nat.mod_lt _ (by decide)⟩ : Fin 128)) := by
  have off : ∀ b : Fin S512x128.rank, b.cast (rfl : S512x128.rank = S512x1024.rank) ≠ (1 : Fin S512x1024.rank) →
      ((ix2 p (⟨j.val % 128, Nat.mod_lt _ (by decide)⟩ : Fin 128) : S512x128.Idx) b).val = ((ix2 p j : S512x1024.Idx) (b.cast rfl)).val := by
    intro b hb
    match b, hb with
    | ⟨0, _⟩, _ => rfl
    | ⟨1, _⟩, hb => exact absurd rfl hb
  have hl : g < 8 := by omega
  have lane : 128 * g + ((ix2 p (⟨j.val % 128, Nat.mod_lt _ (by decide)⟩ : Fin 128) : S512x128.Idx) 1).val = ((ix2 p j : S512x1024.Idx) 1).val := by
    show 128 * g + j.val % 128 = j.val; omega
  match g, hl, hv, lane with
  | 0, _, hv, lane =>
    obtain rfl := Option.some.inj hv
    exact concatenate_apply_piece (t := S512x1024) (1 : Fin S512x1024.rank) (eight v0 v1 v2 v3 v4 v5 v6 v7) concatenates_S512x128_S512x128_S512x128_S512x128_S512x128_S512x128_S512x128_S512x128_S512x1024_d1 (ix2 p j) 0 (show 0 < 8 by decide) S512x128 v0 rfl rfl (128 * 0) rfl _ off lane
  | 1, _, hv, lane =>
    obtain rfl := Option.some.inj hv
    exact concatenate_apply_piece (t := S512x1024) (1 : Fin S512x1024.rank) (eight v0 v1 v2 v3 v4 v5 v6 v7) concatenates_S512x128_S512x128_S512x128_S512x128_S512x128_S512x128_S512x128_S512x128_S512x1024_d1 (ix2 p j) 1 (show 1 < 8 by decide) S512x128 v1 rfl rfl (128 * 1) rfl _ off lane
  | 2, _, hv, lane =>
    obtain rfl := Option.some.inj hv
    exact concatenate_apply_piece (t := S512x1024) (1 : Fin S512x1024.rank) (eight v0 v1 v2 v3 v4 v5 v6 v7) concatenates_S512x128_S512x128_S512x128_S512x128_S512x128_S512x128_S512x128_S512x128_S512x1024_d1 (ix2 p j) 2 (show 2 < 8 by decide) S512x128 v2 rfl rfl (128 * 2) rfl _ off lane
  | 3, _, hv, lane =>
    obtain rfl := Option.some.inj hv
    exact concatenate_apply_piece (t := S512x1024) (1 : Fin S512x1024.rank) (eight v0 v1 v2 v3 v4 v5 v6 v7) concatenates_S512x128_S512x128_S512x128_S512x128_S512x128_S512x128_S512x128_S512x128_S512x1024_d1 (ix2 p j) 3 (show 3 < 8 by decide) S512x128 v3 rfl rfl (128 * 3) rfl _ off lane
  | 4, _, hv, lane =>
    obtain rfl := Option.some.inj hv
    exact concatenate_apply_piece (t := S512x1024) (1 : Fin S512x1024.rank) (eight v0 v1 v2 v3 v4 v5 v6 v7) concatenates_S512x128_S512x128_S512x128_S512x128_S512x128_S512x128_S512x128_S512x128_S512x1024_d1 (ix2 p j) 4 (show 4 < 8 by decide) S512x128 v4 rfl rfl (128 * 4) rfl _ off lane
  | 5, _, hv, lane =>
    obtain rfl := Option.some.inj hv
    exact concatenate_apply_piece (t := S512x1024) (1 : Fin S512x1024.rank) (eight v0 v1 v2 v3 v4 v5 v6 v7) concatenates_S512x128_S512x128_S512x128_S512x128_S512x128_S512x128_S512x128_S512x128_S512x1024_d1 (ix2 p j) 5 (show 5 < 8 by decide) S512x128 v5 rfl rfl (128 * 5) rfl _ off lane
  | 6, _, hv, lane =>
    obtain rfl := Option.some.inj hv
    exact concatenate_apply_piece (t := S512x1024) (1 : Fin S512x1024.rank) (eight v0 v1 v2 v3 v4 v5 v6 v7) concatenates_S512x128_S512x128_S512x128_S512x128_S512x128_S512x128_S512x128_S512x128_S512x1024_d1 (ix2 p j) 6 (show 6 < 8 by decide) S512x128 v6 rfl rfl (128 * 6) rfl _ off lane
  | 7, _, hv, lane =>
    obtain rfl := Option.some.inj hv
    exact concatenate_apply_piece (t := S512x1024) (1 : Fin S512x1024.rank) (eight v0 v1 v2 v3 v4 v5 v6 v7) concatenates_S512x128_S512x128_S512x128_S512x128_S512x128_S512x128_S512x128_S512x128_S512x1024_d1 (ix2 p j) 7 (show 7 < 8 by decide) S512x128 v7 rfl rfl (128 * 7) rfl _ off lane

/-- The slots' matrix. -/
theorem slots_at (x0 : Vec Ideal S4096x128 .f32) (p : Fin 512) (j : Fin 1024) :
    slots x0 (ix2 p j) = x0 (foldRow p j) := by
  have hj : j.val / 128 = 0 ∨ j.val / 128 = 1 ∨ j.val / 128 = 2 ∨ j.val / 128 = 3 ∨ j.val / 128 = 4 ∨ j.val / 128 = 5
    ∨ j.val / 128 = 6 ∨ j.val / 128 = 7 := by omega
  rcases hj with h | h | h | h | h | h | h | h
  · exact (groups_at _ _ _ _ _ _ _ _ p j 0 _ rfl h).trans (group_at x0 0 inb_S4096x128_S512x128_0_0_s_8_1 p j h)
  · exact (groups_at _ _ _ _ _ _ _ _ p j 1 _ rfl h).trans (group_at x0 1 inb_S4096x128_S512x128_1_0_s_8_1 p j h)
  · exact (groups_at _ _ _ _ _ _ _ _ p j 2 _ rfl h).trans (group_at x0 2 inb_S4096x128_S512x128_2_0_s_8_1 p j h)
  · exact (groups_at _ _ _ _ _ _ _ _ p j 3 _ rfl h).trans (group_at x0 3 inb_S4096x128_S512x128_3_0_s_8_1 p j h)
  · exact (groups_at _ _ _ _ _ _ _ _ p j 4 _ rfl h).trans (group_at x0 4 inb_S4096x128_S512x128_4_0_s_8_1 p j h)
  · exact (groups_at _ _ _ _ _ _ _ _ p j 5 _ rfl h).trans (group_at x0 5 inb_S4096x128_S512x128_5_0_s_8_1 p j h)
  · exact (groups_at _ _ _ _ _ _ _ _ p j 6 _ rfl h).trans (group_at x0 6 inb_S4096x128_S512x128_6_0_s_8_1 p j h)
  · exact (groups_at _ _ _ _ _ _ _ _ p j 7 _ rfl h).trans (group_at x0 7 inb_S4096x128_S512x128_7_0_s_8_1 p j h)

/-- The accumulators of the products hold zero. -/
theorem zero_bits : (FloatOps.ofBits (F := Ideal) .f32 0x00000000#32 : EReal) = 0 := by
  pointwise

/-- The product of the slots with a weight. -/
theorem proj_at (s : FVec Ideal S512x1024 .bf16) (w : FVec Ideal S1024x512 .bf16) (p k : Fin 512) :
    matmul dot_S512x1024_S1024x512_S512x512_1_0_0_1_n_n none s w (constant (F := Ideal) S512x512 .f32 0x00000000#32) (ix2 p k)
      = ∑ j : Fin 1024, s (ix2 p j) * w (ix2 j k) := by
  pointwise

theorem down_at (s : FVec Ideal S512x512 .bf16) (w : FVec Ideal S512x1024 .bf16) (p : Fin 512) (q : Fin 1024) :
    matmul dot_S512x512_S512x1024_S512x1024_1_0_0_1_n_n none s w (constant (F := Ideal) S512x1024 .f32 0x00000000#32) (ix2 p q)
      = ∑ k : Fin 512, s (ix2 p k) * w (ix2 k q) := by
  pointwise

/-- The activated gate projection. -/
theorem gated_at (x0 : Vec Ideal S4096x128 .f32) (w0 : Vec Ideal S1024x512 .bf16) (p k : Fin 512) :
    gated x0 w0 (ix2 p k) = act (∑ j : Fin 1024, slots x0 (ix2 p j) * w0 (ix2 j k)) := by
  have e := proj_at (slots x0) w0 p k
  generalize hg : (∑ j : Fin 1024, slots x0 (ix2 p j) * w0 (ix2 j k) : EReal) = g at e ⊢
  unfold act
  rw [← show (FloatOps.subf (F := Ideal) (φ := .f32) (FloatOps.ofBits .f32 0x00000000#32) g : EReal) = -g from Ideal.subf_zero_eq_hostNegf g, ← e]
  rfl

/-- One element of a used block. -/
theorem blockOut_at (x0 : Vec Ideal S4096x128 .f32) (w0 w1 : Vec Ideal S1024x512 .bf16) (w2 : Vec Ideal S512x1024 .bf16)
    (y : S4096x128.Idx) (p : Fin 512) (q : Fin 1024) (hy : unfoldRow y = ix2 p q) :
    blockOut x0 w0 w1 w2 y
      = cell (fun j => x0 (foldRow p j)) (fun j k => w0 (ix2 j k)) (fun j k => w1 (ix2 j k)) (fun k => w2 (ix2 k q)) := by
  show k0_pay1 (slots x0) (gated x0 w0) w1 w2 (unfoldRow y) = _
  rw [hy]
  refine (down_at _ _ p q).trans (Finset.sum_congr rfl fun k _ => congrArg (· * (w2 (ix2 k q) : EReal)) ?_)
  show (gated x0 w0 (ix2 p k) * matmul dot_S512x1024_S1024x512_S512x512_1_0_0_1_n_n none (slots x0) w1
    (constant (F := Ideal) S512x512 .f32 0x00000000#32) (ix2 p k) : EReal) = _
  rw [gated_at, proj_at]
  simp only [slots_at]

/-- A weight's block as the body keeps it: the expert's matrix. -/
theorem pay11_at (x : Vec Ideal S1x1x1024x512 .f32) (j : Fin 1024) (k : Fin 512) :
    k0_pay11 x (ix2 j k) = x (ix4 (0 : Fin 1) (0 : Fin 1) j k) := by
  unfold k0_pay11
  refine (shapeCast_apply _ _ (ix2 j k) (ix2 j k) rfl).trans (shapeCast_apply x _ (ix2 j k) (ix4 (0 : Fin 1) (0 : Fin 1) j k) ?_)
  rw [Shape.rowMajor_val_four, Shape.rowMajor_val_two]
  show ((0 * 1 + 0) * 1024 + j.val) * 512 + k.val = j.val * 512 + k.val; omega

theorem pay12_at (x : Vec Ideal S1x1x1024x512 .f32) (j : Fin 1024) (k : Fin 512) :
    k0_pay12 x (ix2 j k) = x (ix4 (0 : Fin 1) (0 : Fin 1) j k) := pay11_at x j k

theorem pay13_at (x : Vec Ideal S1x1x512x1024 .f32) (k : Fin 512) (q : Fin 1024) :
    k0_pay13 x (ix2 k q) = x (ix4 (0 : Fin 1) (0 : Fin 1) k q) := by
  unfold k0_pay13
  refine (shapeCast_apply _ _ (ix2 k q) (ix2 k q) rfl).trans (shapeCast_apply x _ (ix2 k q) (ix4 (0 : Fin 1) (0 : Fin 1) k q) ?_)
  rw [Shape.rowMajor_val_four, Shape.rowMajor_val_two]
  show ((0 * 1 + 0) * 512 + k.val) * 1024 + q.val = k.val * 1024 + q.val; omega

end Cert.Kernel2Ideal.Experts

end
-- ==== Proof.ExpertsReference.lean ====
/- The reference of the experts' call, element by element: the expert of a block is the plan's, its weights are that
   expert's, and an element of the result is `cell` of the slot's row in a used block, zero in another. -/
module

public import proofs.«01_k».proof.Proof.ExpertsTerm
public import proofs.«01_k».proof.Proof.Gen.Reference2Ideal.Read

@[expose] public section

set_option maxRecDepth 16384

noncomputable section

namespace Cert.Kernel2Ideal.Experts

open Cert.Kernel2Ideal.Gen Cert.Reference2Ideal.Read
open Idealize.ShloMosaic Idealize.ShloMosaic.TcCoe Idealize.ShloMosaic.Tactic

/-! ## The plan -/

/-- The first rows of the reference's blocks. -/
abbrev rowsPlain : IVec S160 32 :=
  muli (iotaInDim S160 32 0) (broadcastInDim S160 ![] bcast_S_S160 (constantI S_ 32 512#32))

theorem ref_ends (x0 : FVec Ideal S1x128 .f32) : val_main_v10 (F := Ideal) x0 = endsOf (F := Ideal) x0 := rfl

theorem ref_used (x0 : FVec Ideal S1x128 .f32) : val_main_v59 (F := Ideal) x0 = usedOf (F := Ideal) (endsOf (F := Ideal) x0) := rfl

theorem ref_experts (x0 : FVec Ideal S1x128 .f32) :
    val_main_v22 (F := Ideal) x0 = expertsAt (endsOf (F := Ideal) x0) rowsPlain := rfl

/-- The expert of block `t`. -/
abbrev expertOf (x0 : FVec Ideal S1x128 .f32) (t : Fin 160) : BitVec 32 :=
  expertsAt (endsOf (F := Ideal) x0) rowsPlain (ix1 t)

theorem expertOf_lt (x0 : FVec Ideal S1x128 .f32) (t : Fin 160) : (expertOf x0 t).toNat ≤ 31 ∧ 0 ≤ (expertOf x0 t).toInt :=
  experts_lt _ _ _

/-- Wrapping a negative expert number does nothing. -/
theorem wrap_expert {w : BitVec 32} (h : 0 ≤ w.toInt) (z : BitVec 32) :
    Scalar.select (IntOp.cmpi .slt w 0#32) z w = w := by
  have e : IntOp.cmpi .slt w 0#32 = 0#1 := by
    simp only [IntOp.cmpi]
    have : BitVec.slt w 0#32 = false := by
      rw [BitVec.slt]; simpa using h
    rw [this]; rfl
  rw [e]; rfl

theorem index_gate (x0 : FVec Ideal S1x128 .f32) (t : Fin 160) :
    val_main_v31 (F := Ideal) x0 (ix2 t (0 : Fin 1)) = expertOf x0 t := by
  rw [val_main_v31_apply, val_main_v30_apply, val_main_v27_apply]
  have e : idx_main_v31 (ix2 t (0 : Fin 1)) = ix1 t := by funext a; match a with | ⟨0, _⟩ => rfl
  rw [e, ref_experts]
  exact wrap_expert (expertOf_lt x0 t).2 _

theorem index_up (x0 : FVec Ideal S1x128 .f32) (t : Fin 160) :
    val_main_v41 (F := Ideal) x0 (ix2 t (0 : Fin 1)) = expertOf x0 t := index_gate x0 t

theorem index_down (x0 : FVec Ideal S1x128 .f32) (t : Fin 160) :
    val_main_v53 (F := Ideal) x0 (ix2 t (0 : Fin 1)) = expertOf x0 t := index_gate x0 t

/-! ## The gathered weights -/

/-- The expert as one of the 32. -/
abbrev expertIx (x0 : FVec Ideal S1x128 .f32) (t : Fin 160) : Fin 32 :=
  ⟨(expertOf x0 t).toNat, by have := (expertOf_lt x0 t).1; omega⟩

theorem toInt_toNat {w : BitVec 32} (h : 0 ≤ w.toInt) (h' : w.toNat ≤ 31) : min w.toInt.toNat (32 - 1) = w.toNat := by
  have : w.toInt = (w.toNat : ℤ) := by rw [BitVec.toInt_eq_toNat_cond]; rw [if_pos (by omega)]
  omega

/-- A gather of whole matrices along the first axis, read at an index. -/
theorem gather_up (x : (Cert.Reference2Ideal.S32x1024x512).Idx → EReal) (w : IVec Cert.Reference2Ideal.S160x1 32) (t : Fin 160) (j : Fin 1024) (k : Fin 512)
    (e : BitVec 32) (he : w (ix2 t (0 : Fin 1)) = e) (h : 0 ≤ e.toInt) (h' : e.toNat ≤ 31) :
    Host.gather Cert.Reference2Ideal.gather_S32x1024x512_S160x1_S160x1024x512_12_0_n_n_0_1_11024512 x w (ix3 t j k)
      = x (ix3 (⟨e.toNat, by omega⟩ : Fin 32) j k) := by
  unfold Host.gather
  refine congrArg x (funext fun a => Fin.ext ?_)
  match a with
  | ⟨0, _⟩ =>
    show GatherDims.start _ _ _ 0 + GatherDims.batchCoord _ _ 0 + GatherDims.offCoord _ _ 0 = e.toNat
    rw [GatherDims.batchCoord_eq_zero _ _ _ (by decide), GatherDims.offCoord_eq_zero _ _ _ (by decide)]
    simp only [Nat.add_zero]
    unfold GatherDims.start
    rw [dif_pos (by decide)]
    refine Eq.trans ?_ (toInt_toNat h h')
    rw [← he]
    refine congrArg (fun b => min (w b).toInt.toNat (32 - 1)) (funext fun b => Fin.ext ?_)
    match b with
    | ⟨0, _⟩ => rfl
    | ⟨1, _⟩ => rfl
  | ⟨1, _⟩ =>
    show GatherDims.start _ _ _ 1 + GatherDims.batchCoord _ _ 1 + GatherDims.offCoord _ _ 1 = j.val
    rw [GatherDims.batchCoord_eq_zero _ _ _ (by decide)]
    unfold GatherDims.start GatherDims.offCoord
    rw [dif_neg (by decide), dif_pos (by decide), Nat.zero_add]
    rfl
  | ⟨2, _⟩ =>
    show GatherDims.start _ _ _ 2 + GatherDims.batchCoord _ _ 2 + GatherDims.offCoord _ _ 2 = k.val
    rw [GatherDims.batchCoord_eq_zero _ _ _ (by decide)]
    unfold GatherDims.start GatherDims.offCoord
    rw [dif_neg (by decide), dif_pos (by decide), Nat.zero_add]
    rfl

theorem gather_down (x : (Cert.Reference2Ideal.S32x512x1024).Idx → EReal) (w : IVec Cert.Reference2Ideal.S160x1 32) (t : Fin 160) (k : Fin 512) (q : Fin 1024)
    (e : BitVec 32) (he : w (ix2 t (0 : Fin 1)) = e) (h : 0 ≤ e.toInt) (h' : e.toNat ≤ 31) :
    Host.gather Cert.Reference2Ideal.gather_S32x512x1024_S160x1_S160x512x1024_12_0_n_n_0_1_15121024 x w (ix3 t k q)
      = x (ix3 (⟨e.toNat, by omega⟩ : Fin 32) k q) := by
  unfold Host.gather
  refine congrArg x (funext fun a => Fin.ext ?_)
  match a with
  | ⟨0, _⟩ =>
    show GatherDims.start _ _ _ 0 + GatherDims.batchCoord _ _ 0 + GatherDims.offCoord _ _ 0 = e.toNat
    rw [GatherDims.batchCoord_eq_zero _ _ _ (by decide), GatherDims.offCoord_eq_zero _ _ _ (by decide)]
    simp only [Nat.add_zero]
    unfold GatherDims.start
    rw [dif_pos (by decide)]
    refine Eq.trans ?_ (toInt_toNat h h')
    rw [← he]
    refine congrArg (fun b => min (w b).toInt.toNat (32 - 1)) (funext fun b => Fin.ext ?_)
    match b with
    | ⟨0, _⟩ => rfl
    | ⟨1, _⟩ => rfl
  | ⟨1, _⟩ =>
    show GatherDims.start _ _ _ 1 + GatherDims.batchCoord _ _ 1 + GatherDims.offCoord _ _ 1 = k.val
    rw [GatherDims.batchCoord_eq_zero _ _ _ (by decide)]
    unfold GatherDims.start GatherDims.offCoord
    rw [dif_neg (by decide), dif_pos (by decide), Nat.zero_add]
    rfl
  | ⟨2, _⟩ =>
    show GatherDims.start _ _ _ 2 + GatherDims.batchCoord _ _ 2 + GatherDims.offCoord _ _ 2 = q.val
    rw [GatherDims.batchCoord_eq_zero _ _ _ (by decide)]
    unfold GatherDims.start GatherDims.offCoord
    rw [dif_neg (by decide), dif_pos (by decide), Nat.zero_add]
    rfl

/-- Expert `e`'s matrix of the first layer's weights. -/
theorem layer_up (x : FVec Ideal S2x32x1024x512 .f32) (e : Fin 32) (j : Fin 1024) (k : Fin 512) :
    val_main_v25 (F := Ideal) x (ix3 e j k) = x (ix4 (0 : Fin 2) e j k) := by
  rw [val_main_v25_apply, val_main_v24_apply]
  refine congrArg x (funext fun a => Fin.ext ?_)
  match a with
  | ⟨0, _⟩ => rfl
  | ⟨1, _⟩ => show ((e.val * 1024 + j.val) * 512 + k.val) / 524288 % 32 = e.val; omega
  | ⟨2, _⟩ => show ((e.val * 1024 + j.val) * 512 + k.val) / 512 % 1024 = j.val; omega
  | ⟨3, _⟩ => show ((e.val * 1024 + j.val) * 512 + k.val) % 512 = k.val; omega

theorem layer_down (x : FVec Ideal S2x32x512x1024 .f32) (e : Fin 32) (k : Fin 512) (q : Fin 1024) :
    val_main_v47 (F := Ideal) x (ix3 e k q) = x (ix4 (0 : Fin 2) e k q) := by
  rw [val_main_v47_apply, val_main_v46_apply]
  refine congrArg x (funext fun a => Fin.ext ?_)
  match a with
  | ⟨0, _⟩ => rfl
  | ⟨1, _⟩ => show ((e.val * 512 + k.val) * 1024 + q.val) / 524288 % 32 = e.val; omega
  | ⟨2, _⟩ => show ((e.val * 512 + k.val) * 1024 + q.val) / 1024 % 512 = k.val; omega
  | ⟨3, _⟩ => show ((e.val * 512 + k.val) * 1024 + q.val) % 1024 = q.val; omega

variable (x0 : FVec Ideal S1x128 .f32) (x1 : FVec Ideal S655360x128 .f32) (x2 x3 : FVec Ideal S2x32x1024x512 .f32)
  (x4 : FVec Ideal S2x32x512x1024 .f32)

theorem ref_gate (t : Fin 160) (j : Fin 1024) (k : Fin 512) :
    val_main_v32 (F := Ideal) x0 x2 (ix3 t j k) = x2 (ix4 (0 : Fin 2) (expertIx x0 t) j k) :=
  (gather_up _ _ t j k _ (index_gate x0 t) (expertOf_lt x0 t).2 (expertOf_lt x0 t).1).trans (layer_up x2 _ j k)

theorem ref_up (t : Fin 160) (j : Fin 1024) (k : Fin 512) :
    val_main_v42 (F := Ideal) x0 x3 (ix3 t j k) = x3 (ix4 (0 : Fin 2) (expertIx x0 t) j k) :=
  (gather_up _ _ t j k _ (index_up x0 t) (expertOf_lt x0 t).2 (expertOf_lt x0 t).1).trans (layer_up x3 _ j k)

theorem ref_down (t : Fin 160) (k : Fin 512) (q : Fin 1024) :
    val_main_v54 (F := Ideal) x0 x4 (ix3 t k q) = x4 (ix4 (0 : Fin 2) (expertIx x0 t) k q) :=
  (gather_down _ _ t k q _ (index_down x0 t) (expertOf_lt x0 t).2 (expertOf_lt x0 t).1).trans (layer_down x4 _ k q)

/-! ## The result -/

/-- Where entry `j` of slot `p` of block `t` lies in the slots' array. -/
abbrev slotAt (t : Fin 160) (p : Fin 512) (j : Fin 1024) : S655360x128.Idx :=
  ix2 (⟨4096 * t.val + (8 * p.val + j.val / 128), by omega⟩ : Fin 655360) (⟨j.val % 128, by omega⟩ : Fin 128)

theorem ref_slot (t : Fin 160) (p : Fin 512) (j : Fin 1024) :
    val_main_v23 (F := Ideal) x1 (ix3 t p j) = x1 (slotAt t p j) := by
  rw [val_main_v23_apply]
  refine congrArg x1 (funext fun a => Fin.ext ?_)
  match a with
  | ⟨0, _⟩ => show ((t.val * 512 + p.val) * 1024 + j.val) / 128 = 4096 * t.val + (8 * p.val + j.val / 128); omega
  | ⟨1, _⟩ => show ((t.val * 512 + p.val) * 1024 + j.val) % 128 = j.val % 128; omega

theorem ref_gate_dot (t : Fin 160) (p k : Fin 512) :
    val_main_v33 (F := Ideal) x0 x1 x2 (ix3 t p k)
      = ∑ j : Fin 1024, (x1 (slotAt t p j) * x2 (ix4 (0 : Fin 2) (expertIx x0 t) j k) : EReal) := by
  rw [val_main_v33_apply]
  refine Finset.sum_congr rfl fun j _ => ?_
  have el : lidx_main_v33 (ix3 t p k) j = ix3 t p j := by
    funext a; match a with | ⟨0, _⟩ => rfl | ⟨1, _⟩ => rfl | ⟨2, _⟩ => rfl
  have er : ridx_main_v33 (ix3 t p k) j = ix3 t j k := by
    funext a; match a with | ⟨0, _⟩ => rfl | ⟨1, _⟩ => rfl | ⟨2, _⟩ => rfl
  rw [el, er, ref_slot, ref_gate]

theorem ref_up_dot (t : Fin 160) (p k : Fin 512) :
    val_main_v43 (F := Ideal) x0 x1 x3 (ix3 t p k)
      = ∑ j : Fin 1024, (x1 (slotAt t p j) * x3 (ix4 (0 : Fin 2) (expertIx x0 t) j k) : EReal) :=
  ref_gate_dot x0 x1 x3 t p k

/-- The activated gate times the up projection. -/
theorem ref_hidden (t : Fin 160) (p k : Fin 512) :
    val_main_v45 (F := Ideal) x0 x1 x2 x3 (ix3 t p k)
      = act (∑ j : Fin 1024, (x1 (slotAt t p j) * x2 (ix4 (0 : Fin 2) (expertIx x0 t) j k) : EReal))
        * (∑ j : Fin 1024, (x1 (slotAt t p j) * x3 (ix4 (0 : Fin 2) (expertIx x0 t) j k) : EReal) : EReal) := by
  rw [val_main_v45_apply, ref_up_dot, val_main_v44_apply, val_main_call2_v5_apply, val_main_call2_v3_apply,
    val_main_call2_v1_apply, val_main_call2_v0_apply, ref_gate_dot, val_main_call2_v4_apply, val_main_call2_v2_apply]
  rfl

theorem ref_block (t : Fin 160) (p : Fin 512) (q : Fin 1024) :
    val_main_v55 (F := Ideal) x0 x1 x2 x3 x4 (ix3 t p q)
      = cell (fun j => x1 (slotAt t p j)) (fun j k => x2 (ix4 (0 : Fin 2) (expertIx x0 t) j k))
          (fun j k => x3 (ix4 (0 : Fin 2) (expertIx x0 t) j k)) (fun k => x4 (ix4 (0 : Fin 2) (expertIx x0 t) k q)) := by
  rw [val_main_v55_apply]
  refine Finset.sum_congr rfl fun k _ => ?_
  have el : lidx_main_v55 (ix3 t p q) k = ix3 t p k := by
    funext a; match a with | ⟨0, _⟩ => rfl | ⟨1, _⟩ => rfl | ⟨2, _⟩ => rfl
  have er : ridx_main_v55 (ix3 t p q) k = ix3 t k q := by
    funext a; match a with | ⟨0, _⟩ => rfl | ⟨1, _⟩ => rfl | ⟨2, _⟩ => rfl
  rw [el, er, ref_hidden, ref_down]

/-- Block `t` is used: the plan's count of used blocks exceeds it. -/
abbrev UsedBlock (t : Fin 160) : Prop := (t.val : ℤ) < (usedOf (F := Ideal) (endsOf (F := Ideal) x0) at_).toInt

theorem block_slt (u : BitVec 32) (t : Fin 160) :
    IntOp.cmpi .slt (BitVec.ofNat 32 t.val) u = if (t.val : ℤ) < u.toInt then 1#1 else 0#1 := by
  have e : (BitVec.ofNat 32 t.val).toInt = (t.val : ℤ) := StableHlo.Predicate.toInt_ofNat_small _ (by omega)
  simp only [IntOp.cmpi, BitVec.slt, e]
  by_cases h : (t.val : ℤ) < u.toInt <;> simp [h]

theorem ref_masked (t : Fin 160) (p : Fin 512) (q : Fin 1024) :
    val_main_v63 (F := Ideal) x0 x1 x2 x3 x4 (ix3 t p q)
      = if UsedBlock x0 t then val_main_v55 (F := Ideal) x0 x1 x2 x3 x4 (ix3 t p q) else (FloatOps.ofBits (F := Ideal) .f32 0x00000000#32 : EReal) := by
  rw [val_main_v63_apply, val_main_call4_v1_apply, val_main_v62_apply, val_main_v61_apply, val_main_v60_apply, val_main_v56_apply,
    val_main_call4_v2_apply, val_main_call4_v0_apply, val_main_cst_apply, ref_used]
  show Scalar.select (IntOp.cmpi .slt (BitVec.ofNat 32 t.val) (usedOf (F := Ideal) (endsOf (F := Ideal) x0) at_)) _ _ = _
  rw [block_slt]
  by_cases h : UsedBlock x0 t
  · rw [if_pos h, if_pos h]; rfl
  · rw [if_neg h, if_neg h]; rfl

/-- Row `4096 t + r`, lane `l` of the result is column `128 (r % 8) + l` of slot `r / 8` of block `t`. -/
theorem ref_result (t : Fin 160) (y : S4096x128.Idx) (i : S655360x128.Idx) (h0 : (i 0).val = 4096 * t.val + (y 0).val)
    (h1 : (i 1).val = (y 1).val) :
    val_main_v64 (F := Ideal) x0 x1 x2 x3 x4 i
      = val_main_v63 (F := Ideal) x0 x1 x2 x3 x4 (ix3 t (unfoldRow y 0) (unfoldRow y 1)) := by
  rw [val_main_v64_apply]
  refine congrArg _ (funext fun a => Fin.ext ?_)
  have hy0 : (y 0).val < 4096 := (y 0).isLt
  have hy1 : (y 1).val < 128 := (y 1).isLt
  match a with
  | ⟨0, _⟩ => show ((i 0).val * 128 + (i 1).val) / 524288 = t.val; rw [h0, h1]; omega
  | ⟨1, _⟩ => show ((i 0).val * 128 + (i 1).val) / 1024 % 512 = (y 0).val / 8; rw [h0, h1]; omega
  | ⟨2, _⟩ => show ((i 0).val * 128 + (i 1).val) % 1024 = 128 * ((y 0).val % 8) + (y 1).val; rw [h0, h1]; omega

end Cert.Kernel2Ideal.Experts

end
-- ==== Proof.ExpertsValue.lean ====
/- The value of the experts' call: at every point the block the body leaves is the reference's block of the result, and
   the blocks cover the result. -/
module

public import proofs.«01_k».proof.Proof.ExpertsCells
public import proofs.«01_k».proof.Proof.ExpertsReference

@[expose] public section

set_option maxRecDepth 16384

noncomputable section

namespace Cert.Kernel2Ideal.Experts

open Cert.Kernel2Ideal.Gen Cert.Reference2Ideal.Read
open Idealize.ShloMosaic Idealize.ShloMosaic.Pipeline Idealize.ShloMosaic.TcCoe Idealize.ShloMosaic.Tactic
open Idealize.ShloMosaic.StableHlo.Predicate (ij)

variable (m : (ℓ : Loc nD τ sig) → Buf (Elt Ideal) ℓ)

attribute [local irreducible] tbl

/-! ## The arguments -/

abbrev slotsOf (c : Dev nD) : FVec Ideal S655360x128 .f32 := m ((c : Thread nD τ).loc main_arg1)
abbrev gateOf (c : Dev nD) : FVec Ideal S2x32x1024x512 .f32 := m ((c : Thread nD τ).loc main_arg2)
abbrev upOf (c : Dev nD) : FVec Ideal S2x32x1024x512 .f32 := m ((c : Thread nD τ).loc main_arg3)
abbrev downOf (c : Dev nD) : FVec Ideal S2x32x512x1024 .f32 := m ((c : Thread nD τ).loc main_arg4)

/-! ## Where the blocks lie -/

/-- A grid point as one of the 160 blocks. -/
abbrev blockIx (hO : Ok m) (t : Fin (cfgM m hO).N) : Fin 160 := ⟨((grid0.coords t) 0).val, coord_lt _⟩

/-- The result's block is at the point's own number. -/
theorem emb4 (hO : Ok m) (t : Fin (cfgM m hO).N) (y : S4096x128.Idx) :
    ((show S655360x128.Idx from (((cfgM m hO).win 4).blk t).view.emb y) 0).val = 4096 * (blockIx m hO t).val + (y 0).val
    ∧ ((show S655360x128.Idx from (((cfgM m hO).win 4).blk t).view.emb y) 1).val = (y 1).val := by
  refine ⟨(Window.rect_emb_val ((cfgM m hO).win 4) t y (0 : Fin 2)).trans ?_, (Window.rect_emb_val ((cfgM m hO).win 4) t y (1 : Fin 2)).trans ?_⟩
  · show (BitVec.ofNat 32 ((grid0.coords t) 0).val).toNat * 4096 + (y 0).val = _
    rw [BitVec.toNat_ofNat]
    have := coord_lt (grid0.coords t)
    show _ = 4096 * ((grid0.coords t) 0).val + (y 0).val
    omega
  · show 0 * 128 + (y 1).val = _
    omega

/-- The slots' block, where the word names the point's own block. -/
theorem slots_block (hO : Ok m) (c : Dev nD) (t : Fin (cfgM m hO).N)
    (hw : IntOp.minsi (BitVec.ofNat 32 ((grid0.coords t) 0).val) (usedIn (tbl m) - 1#32) = BitVec.ofNat 32 ((grid0.coords t) 0).val)
    (p : Fin 512) (j : Fin 1024) :
    (iblk m hO c 0 t : Vec Ideal S4096x128 .f32) (foldRow p j) = slotsOf m c (slotAt (blockIx m hO t) p j) := by
  show V m c main_arg1 ((((cfgM m hO).win 0).blk t).view.emb (foldRow p j)) = _
  rw [V_main_arg1]
  refine congrArg (slotsOf m c) (funext fun a => Fin.ext ?_)
  have e := transform_0_eq (tbl m) (grid0.coords t)
  rw [hw] at e
  have := coord_lt (grid0.coords t)
  match a with
  | ⟨0, _⟩ =>
    refine (Window.rect_emb_val ((cfgM m hO).win 0) t (foldRow p j) (0 : Fin 2)).trans ?_
    show cc0_transform_0 inb_S1_S1_0 numel1_S1 (tbl m) (grid0.coords t) 0 * 4096 + (8 * p.val + j.val / 128) = _
    rw [e]
    show (BitVec.ofNat 32 ((grid0.coords t) 0).val).toNat * 4096 + (8 * p.val + j.val / 128)
      = 4096 * ((grid0.coords t) 0).val + (8 * p.val + j.val / 128)
    rw [BitVec.toNat_ofNat]
    omega
  | ⟨1, _⟩ =>
    refine (Window.rect_emb_val ((cfgM m hO).win 0) t (foldRow p j) (1 : Fin 2)).trans ?_
    show cc0_transform_0 inb_S1_S1_0 numel1_S1 (tbl m) (grid0.coords t) 1 * 128 + j.val % 128 = j.val % 128
    rw [e]
    show 0 * 128 + j.val % 128 = j.val % 128
    omega

/-- The weights' blocks: the expert's matrices of the first layer. -/
theorem gate_block (hO : Ok m) (c : Dev nD) (t : Fin (cfgM m hO).N) (e : Fin 32)
    (he : (expertIn (tbl m) (grid0.coords t)).toNat = e.val) (j : Fin 1024) (k : Fin 512) :
    (iblk m hO c 1 t : Vec Ideal S1x1x1024x512 .f32) (ix4 (0 : Fin 1) (0 : Fin 1) j k) = gateOf m c (ix4 (0 : Fin 2) e j k) := by
  show V m c main_arg2 ((((cfgM m hO).win 1).blk t).view.emb (ix4 (0 : Fin 1) (0 : Fin 1) j k)) = _
  rw [V_main_arg2]
  refine congrArg (gateOf m c) (funext fun a => Fin.ext ?_)
  have h := transform_1_eq (tbl m) (grid0.coords t)
  refine (Window.rect_emb_val ((cfgM m hO).win 1) t (ix4 (0 : Fin 1) (0 : Fin 1) j k) a).trans ?_
  match a with
  | ⟨0, _⟩ => show cc0_transform_1 k0_off1_inb numel1_S1 (tbl m) (grid0.coords t) 0 * 1 + 0 = 0; rw [h]; rfl
  | ⟨1, _⟩ =>
    show cc0_transform_1 k0_off1_inb numel1_S1 (tbl m) (grid0.coords t) 1 * 1 + 0 = e.val; rw [h]
    show (expertIn (tbl m) (grid0.coords t)).toNat * 1 + 0 = e.val; omega
  | ⟨2, _⟩ =>
    show cc0_transform_1 k0_off1_inb numel1_S1 (tbl m) (grid0.coords t) 2 * 1024 + j.val = j.val; rw [h]
    show 0 * 1024 + j.val = j.val; omega
  | ⟨3, _⟩ =>
    show cc0_transform_1 k0_off1_inb numel1_S1 (tbl m) (grid0.coords t) 3 * 512 + k.val = k.val; rw [h]
    show 0 * 512 + k.val = k.val; omega

theorem up_block (hO : Ok m) (c : Dev nD) (t : Fin (cfgM m hO).N) (e : Fin 32)
    (he : (expertIn (tbl m) (grid0.coords t)).toNat = e.val) (j : Fin 1024) (k : Fin 512) :
    (iblk m hO c 2 t : Vec Ideal S1x1x1024x512 .f32) (ix4 (0 : Fin 1) (0 : Fin 1) j k) = upOf m c (ix4 (0 : Fin 2) e j k) := by
  show V m c main_arg3 ((((cfgM m hO).win 2).blk t).view.emb (ix4 (0 : Fin 1) (0 : Fin 1) j k)) = _
  rw [V_main_arg3]
  refine congrArg (upOf m c) (funext fun a => Fin.ext ?_)
  have h := transform_2_eq (tbl m) (grid0.coords t)
  refine (Window.rect_emb_val ((cfgM m hO).win 2) t (ix4 (0 : Fin 1) (0 : Fin 1) j k) a).trans ?_
  match a with
  | ⟨0, _⟩ => show cc0_transform_2 k0_off1_inb numel1_S1 (tbl m) (grid0.coords t) 0 * 1 + 0 = 0; rw [h]; rfl
  | ⟨1, _⟩ =>
    show cc0_transform_2 k0_off1_inb numel1_S1 (tbl m) (grid0.coords t) 1 * 1 + 0 = e.val; rw [h]
    show (expertIn (tbl m) (grid0.coords t)).toNat * 1 + 0 = e.val; omega
  | ⟨2, _⟩ =>
    show cc0_transform_2 k0_off1_inb numel1_S1 (tbl m) (grid0.coords t) 2 * 1024 + j.val = j.val; rw [h]
    show 0 * 1024 + j.val = j.val; omega
  | ⟨3, _⟩ =>
    show cc0_transform_2 k0_off1_inb numel1_S1 (tbl m) (grid0.coords t) 3 * 512 + k.val = k.val; rw [h]
    show 0 * 512 + k.val = k.val; omega

theorem down_block (hO : Ok m) (c : Dev nD) (t : Fin (cfgM m hO).N) (e : Fin 32)
    (he : (expertIn (tbl m) (grid0.coords t)).toNat = e.val) (k : Fin 512) (q : Fin 1024) :
    (iblk m hO c 3 t : Vec Ideal S1x1x512x1024 .f32) (ix4 (0 : Fin 1) (0 : Fin 1) k q) = downOf m c (ix4 (0 : Fin 2) e k q) := by
  show V m c main_arg4 ((((cfgM m hO).win 3).blk t).view.emb (ix4 (0 : Fin 1) (0 : Fin 1) k q)) = _
  rw [V_main_arg4]
  refine congrArg (downOf m c) (funext fun a => Fin.ext ?_)
  have h := transform_3_eq (tbl m) (grid0.coords t)
  refine (Window.rect_emb_val ((cfgM m hO).win 3) t (ix4 (0 : Fin 1) (0 : Fin 1) k q) a).trans ?_
  match a with
  | ⟨0, _⟩ => show cc0_transform_3 k0_off1_inb numel1_S1 (tbl m) (grid0.coords t) 0 * 1 + 0 = 0; rw [h]; rfl
  | ⟨1, _⟩ =>
    show cc0_transform_3 k0_off1_inb numel1_S1 (tbl m) (grid0.coords t) 1 * 1 + 0 = e.val; rw [h]
    show (expertIn (tbl m) (grid0.coords t)).toNat * 1 + 0 = e.val; omega
  | ⟨2, _⟩ =>
    show cc0_transform_3 k0_off1_inb numel1_S1 (tbl m) (grid0.coords t) 2 * 512 + k.val = k.val; rw [h]
    show 0 * 512 + k.val = k.val; omega
  | ⟨3, _⟩ =>
    show cc0_transform_3 k0_off1_inb numel1_S1 (tbl m) (grid0.coords t) 3 * 1024 + q.val = q.val; rw [h]
    show 0 * 1024 + q.val = q.val; omega

/-! ## The plan at a used point -/

/-- At a used point the launch reads the point's own block, -/
theorem own_block (hu : 1 ≤ (usedIn (tbl m)).toInt) (hO : Ok m) (t : Fin (cfgM m hO).N)
    (ht : (((grid0.coords t) 0).val : ℤ) < (usedIn (tbl m)).toInt) :
    IntOp.minsi (BitVec.ofNat 32 ((grid0.coords t) 0).val) (usedIn (tbl m) - 1#32) = BitVec.ofNat 32 ((grid0.coords t) 0).val :=
  (block_word hu (blockIx m hO t)).2 ht

/-- and its expert is the reference's. -/
theorem own_expert (hu : 1 ≤ (usedIn (tbl m)).toInt) (hO : Ok m) (t : Fin (cfgM m hO).N)
    (ht : (((grid0.coords t) 0).val : ℤ) < (usedIn (tbl m)).toInt) :
    expertIn (tbl m) (grid0.coords t) = expertOf (countsOf m 0) (blockIx m hO t) := by
  have hw := own_block m hu hO t ht
  rw [tbl_experts]
  have hix : at160 ((grid0.coords t) 0).val (coord_lt _) = ix1 (blockIx m hO t) := by
    funext a; match a with | ⟨0, _⟩ => rfl
  rw [hix]
  refine experts_congr _ _ ?_
  rw [tbl_used] at hw
  refine Eq.trans ?_ (congrArg (fun w => IntOp.muli w 512#32) hw)
  refine congrArg (fun w => IntOp.muli (IntOp.minsi (BitVec.ofNat 32 ((grid0.coords t) 0).val) (w - 1#32)) 512#32) ?_
  exact congrArg (usedOf (F := Ideal) (endsOf (countsOf m 0))) (funext fun a => a.elim0)

/-! ## What each point leaves, and the result -/

theorem point4 (hu : 1 ≤ (usedIn (tbl m)).toInt) (hO : Ok m) (c : Dev nD) (t : Fin (cfgM m hO).N) (y : S4096x128.Idx)
    (i : S655360x128.Idx) (h0 : (i 0).val = 4096 * (blockIx m hO t).val + (y 0).val) (h1 : (i 1).val = (y 1).val) :
    result c (grid0.coords t) (tbl m 1) (iblk m hO c 0 t) (k0_pay11 (iblk m hO c 1 t)) (k0_pay12 (iblk m hO c 2 t))
        (k0_pay13 (iblk m hO c 3 t)) y
      = val_main_v64 (F := Ideal) (countsOf m c) (slotsOf m c) (gateOf m c) (upOf m c) (downOf m c) i := by
  obtain rfl : c = 0 := Subsingleton.elim _ _
  refine Eq.trans ?_ ((ref_result _ _ _ _ _ (blockIx m hO t) y i h0 h1).trans (ref_masked _ _ _ _ _ _ _ _)).symm
  have hiff := used_iff (F := Ideal) 0 (grid0.coords t) (tbl m 1)
  by_cases hU : Used (F := Ideal) 0 (grid0.coords t) (tbl m 1)
  · have ht : (((grid0.coords t) 0).val : ℤ) < (usedIn (tbl m)).toInt := hiff.mp hU
    have hb : UsedBlock (countsOf m 0) (blockIx m hO t) := by
      have := ht; rw [tbl_used] at this; exact this
    have he := congrArg BitVec.toNat (own_expert m hu hO t ht)
    refine Eq.trans ?_ ((if_pos hb).trans (ref_block _ _ _ _ _ _ _ _)).symm
    refine (congrFun (if_pos hU) y).trans ?_
    refine (blockOut_at _ _ _ _ y (unfoldRow y 0) (unfoldRow y 1) (by funext a; match a with | ⟨0, _⟩ => rfl | ⟨1, _⟩ => rfl)).trans ?_
    exact cell_congr (fun j => slots_block m hO 0 t (own_block m hu hO t ht) _ j)
      (fun j k => (pay11_at _ j k).trans (gate_block m hO 0 t _ he j k))
      (fun j k => (pay12_at _ j k).trans (up_block m hO 0 t _ he j k))
      (fun k => (pay13_at _ k _).trans (down_block m hO 0 t _ he k _))
  · have ht : ¬ (((grid0.coords t) 0).val : ℤ) < (usedIn (tbl m)).toInt := fun h => hU (hiff.mpr h)
    have hb : ¬ UsedBlock (countsOf m 0) (blockIx m hO t) := fun h => ht (by rw [tbl_used]; exact h)
    exact (congrFun (if_neg hU) y).trans (if_neg hb).symm

/-- The result's blocks are stored and cover the array. -/
theorem flushes : ∀ t : Fin grid0.N, Window.flushOf grid0 true (fun i => cc0_transform_4 i) t = true := by decide +kernel

theorem covers4 (hO : Ok m) : ((cfgM m hO).win 4).Covers := by
  refine ⟨fun a => ?_, fun β => ?_⟩
  · match a with
    | ⟨0, _⟩ => exact (by decide : 0 < 4096)
    | ⟨1, _⟩ => exact (by decide : 0 < 128)
  · have hβ : (β (0 : Fin 2)).val < 160 :=
      (show (β (0 : Fin 2)).val < (655360 + 4096 - 1) / 4096 from (β (0 : Fin 2)).isLt).trans_eq (by norm_num)
    have hβ1 : (β (1 : Fin 2)).val < 1 :=
      (show (β (1 : Fin 2)).val < (128 + 128 - 1) / 128 from (β (1 : Fin 2)).isLt).trans_eq (by norm_num)
    let t : Fin (cfgM m hO).N := ⟨(β (0 : Fin 2)).val, hβ⟩
    refine ⟨t, flushes t, fun a => ⟨?_, Or.inl rfl⟩⟩
    match a with
    | ⟨0, _⟩ =>
      show (BitVec.ofNat 32 ((grid0.coords t) 0).val).toNat = (β (0 : Fin 2)).val
      rw [BitVec.toNat_ofNat, coords_val m hO t]
      show (β (0 : Fin 2)).val % 2 ^ 32 = _
      omega
    | ⟨1, _⟩ => show 0 = (β (1 : Fin 2)).val; omega

/-- The whole result. -/
theorem final4 (hu : 1 ≤ (usedIn (tbl m)).toInt) (hO : Ok m) (c : Dev nD) : (dats m hO 0 c).arrAt 4 (cfgM m hO).N
    = val_main_v64 (F := Ideal) (countsOf m c) (slotsOf m c) (gateOf m c) (upOf m c) (downOf m c) := by
  refine (dats m hO 0 c).arrAt_eq_of_covers 4 _ (covers4 m hO) fun t _ y => ?_
  obtain ⟨h0, h1⟩ := emb4 m hO t y
  refine Eq.trans ?_ (point4 m hu hO c t y _ h0 h1)
  exact congrFun (after0_4 m hO c t) y

end Cert.Kernel2Ideal.Experts

end
-- ==== Proof.OutProjRun.lean ====
/- One grid step of the output projection's call, run: what it leaves in the blocks of its first two results, the updated
   rows `x + y W` and their normed rows folded into rows of 128. Its other three results (the router's decisions, their
   plan and the running counts) are written too; what is in them is not followed. -/
module

public import proofs.«01_k».proof.Proof.Gen.Kernel3Ideal.Frame
public import proofs.«01_k».proof.Proof.Gen.Kernel3Ideal.Skeleton
public import Idealize.ShloMosaic.Lib.Pipeline.ValueKit
public import Idealize.ShloMosaic.Lib.VecWindow

@[expose] public section

set_option maxRecDepth 16384

noncomputable section

namespace Cert.Kernel3Ideal.OutProj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Row `r` of the result's block is column group `r % 8` of slot `r / 8`. -/
abbrev unfoldRow (y : S4096x128.Idx) : S512x1024.Idx :=
  ix2 (⟨(y 0).val / 8, by have : (y 0).val < 4096 := (y 0).isLt; omega⟩ : Fin 512)
    (⟨128 * ((y 0).val % 8) + (y 1).val, by have : (y 1).val < 128 := (y 1).isLt; omega⟩ : Fin 1024)
/-- The normed rows of a tile, folded: eight rows of 128 for one of 1024. -/
abbrev blockOut (M : FVec F S512x1024 .f32) : Vec F S4096x128 .f32 := fun y => M (unfoldRow y)

/-- A store of column group `j` at stride 8 agrees with `blockOut`: entry (r, l) of the piece lands at row 8 r + j. -/
theorem piece_agrees (j : ℕ) (hj : j < 8) (inb) (sp : ∀ a, 0 < (![8, 1] : Fin 2 → ℕ) a) (M : FVec F S512x1024 .f32) (hs)
    (x : S512x128.Idx) :
    extractStridedSlice S512x128 ![0, 128 * j] M hs x
      = M (unfoldRow ((⟨⟨![j, 0], ![512, 128], ![8, 1], inb⟩, sp⟩ : Rect S4096x128).emb x)) := by
  have h0 : (((⟨⟨![j, 0], ![512, 128], ![8, 1], inb⟩, sp⟩ : Rect S4096x128).emb x) 0).val = j + 8 * (x 0).val := rfl
  have h1 : (((⟨⟨![j, 0], ![512, 128], ![8, 1], inb⟩, sp⟩ : Rect S4096x128).emb x) 1).val = 0 + 1 * (x 1).val := rfl
  refine congrArg M (funext fun a => Fin.ext ?_)
  match a with
  | ⟨0, _⟩ =>
    show 0 + (x 0).val = (((⟨⟨![j, 0], ![512, 128], ![8, 1], inb⟩, sp⟩ : Rect S4096x128).emb x) 0).val / 8
    rw [h0]; omega
  | ⟨1, _⟩ =>
    show 128 * j + (x 1).val = 128 * ((((⟨⟨![j, 0], ![512, 128], ![8, 1], inb⟩, sp⟩ : Rect S4096x128).emb x) 0).val % 8)
      + (((⟨⟨![j, 0], ![512, 128], ![8, 1], inb⟩, sp⟩ : Rect S4096x128).emb x) 1).val
    rw [h0, h1]; omega

/-- Row `y` is among the rows the store of column group `y % 8` writes. -/
theorem row_mem (y : S4096x128.Idx) (j : ℕ) (hj : (y 0).val % 8 = j) (inb) (sp : ∀ a, 0 < (![8, 1] : Fin 2 → ℕ) a) :
    y ∈ (⟨⟨![j, 0], ![512, 128], ![8, 1], inb⟩, sp⟩ : Rect S4096x128).set := by
  rw [LoadRect.mem_set]
  have h0 : (y 0).val < 4096 := (y 0).isLt
  have h1 : (y 1).val < 128 := (y 1).isLt
  intro a
  match a with
  | ⟨0, _⟩ => exact ⟨(y 0).val / 8, (by omega : (y 0).val / 8 < 512), (by omega : (y 0).val = j + 8 * ((y 0).val / 8))⟩
  | ⟨1, _⟩ => exact ⟨(y 1).val, h1, (by omega : (y 1).val = 0 + 1 * (y 1).val)⟩

/-- The eight strided stores, in the order they are made (the last first), leave `blockOut`. -/
theorem read_groups (v : View sig .tc .vmem S4096x128 .f32) (f : v.ty.Contents (Elt F)) (M : FVec F S512x1024 .f32) (p0 p1 : FVec F S512x128 .f32)
    (h0 : p0 = extractStridedSlice S512x128 ![0, 0] M slices_S512x1024_o0_0_S512x128)
    (h1 : p1 = extractStridedSlice S512x128 ![0, 128] M slices_S512x1024_o0_128_S512x128) :
    v.read (Elt F) (v.writes (Elt F) f
      [⟨⟨⟨![7, 0], ![512, 128], ![8, 1], inb_S4096x128_S512x128_7_0_s_8_1⟩, spos_8_1⟩, k0_pay11 M⟩,
       ⟨⟨⟨![6, 0], ![512, 128], ![8, 1], inb_S4096x128_S512x128_6_0_s_8_1⟩, spos_8_1⟩, k0_pay10 M⟩,
       ⟨⟨⟨![5, 0], ![512, 128], ![8, 1], inb_S4096x128_S512x128_5_0_s_8_1⟩, spos_8_1⟩, k0_pay9 M⟩,
       ⟨⟨⟨![4, 0], ![512, 128], ![8, 1], inb_S4096x128_S512x128_4_0_s_8_1⟩, spos_8_1⟩, k0_pay8 M⟩,
       ⟨⟨⟨![3, 0], ![512, 128], ![8, 1], inb_S4096x128_S512x128_3_0_s_8_1⟩, spos_8_1⟩, k0_pay7 M⟩,
       ⟨⟨⟨![2, 0], ![512, 128], ![8, 1], inb_S4096x128_S512x128_2_0_s_8_1⟩, spos_8_1⟩, k0_pay6 M⟩,
       ⟨⟨⟨![1, 0], ![512, 128], ![8, 1], inb_S4096x128_S512x128_1_0_s_8_1⟩, spos_8_1⟩, p1⟩,
       ⟨⟨⟨![0, 0], ![512, 128], ![8, 1], inb_S4096x128_S512x128_0_0_s_8_1⟩, spos_8_1⟩, p0⟩])
      = blockOut M := by
  subst h0 h1
  funext y
  refine View.read_writes_apply_of_pieces v f (blockOut M) _ ?_ y ?_
  · simp only [List.forall_mem_cons, List.not_mem_nil, false_imp_iff, implies_true, and_true]
    refine ⟨?_, ?_, ?_, ?_, ?_, ?_, ?_, ?_⟩
    · exact fun x => piece_agrees 7 (by decide) _ _ _ slices_S512x1024_o0_896_S512x128 x
    · exact fun x => piece_agrees 6 (by decide) _ _ _ slices_S512x1024_o0_768_S512x128 x
    · exact fun x => piece_agrees 5 (by decide) _ _ _ slices_S512x1024_o0_640_S512x128 x
    · exact fun x => piece_agrees 4 (by decide) _ _ _ slices_S512x1024_o0_512_S512x128 x
    · exact fun x => piece_agrees 3 (by decide) _ _ _ slices_S512x1024_o0_384_S512x128 x
    · exact fun x => piece_agrees 2 (by decide) _ _ _ slices_S512x1024_o0_256_S512x128 x
    · exact fun x => piece_agrees 1 (by decide) _ _ _ slices_S512x1024_o0_128_S512x128 x
    · exact fun x => piece_agrees 0 (by decide) _ _ _ slices_S512x1024_o0_0_S512x128 x
  · have hlt : (y 0).val % 8 < 8 := Nat.mod_lt _ (by decide)
    have mem := fun j hj inb => row_mem y j hj inb spos_8_1
    simp only [List.exists_mem_cons_iff, List.not_mem_nil, false_and, exists_false, or_false]
    rcases (by omega : (y 0).val % 8 = 7 ∨ (y 0).val % 8 = 6 ∨ (y 0).val % 8 = 5 ∨ (y 0).val % 8 = 4
      ∨ (y 0).val % 8 = 3 ∨ (y 0).val % 8 = 2 ∨ (y 0).val % 8 = 1 ∨ (y 0).val % 8 = 0) with h | h | h | h | h | h | h | h
    · exact .inl (mem 7 h _)
    · exact .inr (.inl (mem 6 h _))
    · exact .inr (.inr (.inl (mem 5 h _)))
    · exact .inr (.inr (.inr (.inl (mem 4 h _))))
    · exact .inr (.inr (.inr (.inr (.inl (mem 3 h _)))))
    · exact .inr (.inr (.inr (.inr (.inr (.inl (mem 2 h _))))))
    · exact .inr (.inr (.inr (.inr (.inr (.inr (.inl (mem 1 h _)))))))
    · exact .inr (.inr (.inr (.inr (.inr (.inr (.inr (mem 0 h _)))))))

set_option maxHeartbeats 8000000 in
/-- The body, run: the inputs' blocks stay; the first result's block is the tile's `x + y W`, the second's its normed rows,
    folded; the other three results and the running counts are left at some contents, of which nothing is said. -/
theorem run (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S4096x128 .f32) (harg11 : arg11.IsWhole) (arg12 : Memref sig .tc .vmem S512x128 .f32) (harg12 : arg12.IsWhole) (arg13 : Memref sig .tc .vmem S8x512 .f32) (harg13 : arg13.IsWhole) (arg14 : Memref sig .tc .vmem S1x128 .f32) (harg14 : arg14.IsWhole) (arg15 : Memref sig .tc .vmem S1x128 .f32) (harg15 : arg15.IsWhole)
    (x0 : Vec F S512x1024 .f32) (x1 : Vec F S512x512 .bf16) (x2 : Vec F S512x512 .bf16) (x3 : Vec F S512x1024 .bf16) (x4 : Vec F S512x1024 .bf16) (x5 : Vec F S1x1024 .f32) (x6 : Vec F S1024x128 .bf16) (x7 : Vec F S1024x128 .bf16) (x8 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay2 x0 x1 x3 x2 x4) ∗ owns (c : Thread nD τ) arg11 fullShare (blockOut (k0_pay3 x0 x1 x3 x2 x4 x5)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_out_router i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_out_router_eq_skeleton]; unfold cc0_out_router_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec
  sl_step
  have e1 : View.readAt (Elt F) arg1.view (Rect.unit (s := S512x1024) ![0, 0] S512x1024.size inb_S512x1024_S512x1024_0_0).toLoadRect (harg1.unread x0) = x0 :=
    (View.readAt_full _ _ _).trans hf0
  have e2 : View.readAt (Elt F) arg2.view (Rect.unit (s := S512x512) ![0, 0] S512x512.size inb_S512x512_S512x512_0_0).toLoadRect (harg2.unread x1) = x1 :=
    (View.readAt_full _ _ _).trans hf1
  have e3 : View.readAt (Elt F) arg3.view (Rect.unit (s := S512x512) ![0, 0] S512x512.size inb_S512x512_S512x512_0_0).toLoadRect (harg3.unread x2) = x2 :=
    (View.readAt_full _ _ _).trans hf2
  have e4 : View.readAt (Elt F) arg4.view (Rect.unit (s := S512x1024) ![0, 0] S512x1024.size inb_S512x1024_S512x1024_0_0).toLoadRect (harg4.unread x3) = x3 :=
    (View.readAt_full _ _ _).trans hf3
  have e5 : View.readAt (Elt F) arg5.view (Rect.unit (s := S512x1024) ![0, 0] S512x1024.size inb_S512x1024_S512x1024_0_0).toLoadRect (harg5.unread x4) = x4 :=
    (View.readAt_full _ _ _).trans hf4
  have e6 : View.readAt (Elt F) arg6.view (Rect.unit (s := S1x1024) ![0, 0] S1x1024.size inb_S1x1024_S1x1024_0_0).toLoadRect (harg6.unread x5) = x5 :=
    (View.readAt_full _ _ _).trans hf5
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr
    swap; · iexact H9
    ipureintro
    exact (View.read_writes_full _ _ _ _ _).trans (by rw [e1, e2, e3, e4, e5])
  isplitl [H10]
  · iexists _; isplitr
    swap; · iexact H10
    ipureintro
    have er : run.sl.r c arg1 harg1 arg2 harg2 arg3 harg3 arg4 harg4 arg5 harg5 arg6 harg6 x0 x1 x2 x3 x4 x5 = k0_pay3 x0 x1 x3 x2 x4 x5 := by
      unfold run.sl.r; rw [e1, e2, e3, e4, e5, e6]
    have er1 : run.sl.r_1 c arg1 harg1 arg2 harg2 arg3 harg3 arg4 harg4 arg5 harg5 arg6 harg6 x0 x1 x2 x3 x4 x5 = k0_pay5 x0 x1 x3 x2 x4 x5 := by
      unfold run.sl.r_1; rw [e1, e2, e3, e4, e5, e6]
    rw [er, er1, e1, e2, e3, e4, e5, e6]
    exact read_groups _ _ _ _ _ rfl rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel3Ideal.OutProj

end
-- ==== Proof.OutProjFrame.lean ====
/- The output projection's call, launched: what each step leaves in its first two results, the body obligation with the
   other three left unnamed, the run and the frame. -/
module

public import proofs.«01_k».proof.Proof.OutProjRun
public import Idealize.ShloMosaic.Lib.Claim

@[expose] public section

set_option maxRecDepth 16384

noncomputable section

namespace Cert.Kernel3Ideal.OutProj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## Each window's staging buffer at a point, and the running counts' -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4096x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128 .f32 := win0_13.stage (cfg0.slots t 13)
abbrev hs0_13 (t : Fin cfg0.N) : (ms0_13 t).IsWhole := hstage0_13 ((cfg0.slots t 13).cast nbuf0_13)
/-- The running counts, kept from step to step. -/
abbrev scM0_0 : Memref sig .tc .vmem S1x128 .f32 := Memref.whole cc0_scratch0

/-- Outside the windows the region holds the running counts, at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

variable (m : (ℓ : Loc nD τ sig) → Buf (Elt F) ℓ) (ρ : Dev nD → PrngReg)

/-! ## What each step leaves -/

/-- The results of which nothing is said: the decisions, the plan and the counts. -/
def unsaid : Fin 14 → Bool := fun w => w.val == 11 || w.val == 12 || w.val == 13

/-- The updated rows of the step's tile, -/
abbrev rowsOut (c : Dev nD) (t : Fin cfg0.N) : Vec F S512x1024 .f32 :=
  k0_pay2 (iblk m c 0 t) (iblk m c 1 t) (iblk m c 3 t) (iblk m c 2 t) (iblk m c 4 t)
/-- and the same normed. -/
abbrev normedOut (c : Dev nD) (t : Fin cfg0.N) : FVec F S512x1024 .f32 :=
  k0_pay3 (iblk m c 0 t) (iblk m c 1 t) (iblk m c 3 t) (iblk m c 2 t) (iblk m c 4 t) (iblk m c 5 t)

/-- The proof data: each input's block stays; the first two results are named, the other three not. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => rowsOut m c t
    | ⟨10, _⟩ => blockOut (normedOut m c t)
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = rowsOut m c t := by dsimp only [dats]
theorem after0_10 (c : Dev nD) (t : Fin cfg0.N) : (dats m 0 c).after 10 t = blockOut (normedOut m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare (d))
    ∗ (∃ d, owns (c : Thread nD τ) (ms0_12 t) fullShare (d))
    ∗ (∃ d, owns (c : Thread nD τ) (ms0_13 t) fullShare (d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare (d))
    ∗ (∃ d, owns (c : Thread nD τ) (ms0_12 t) fullShare (d))
    ∗ (∃ d, owns (c : Thread nD τ) (ms0_13 t) fullShare (d)))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  iintro ⟨H0, H1, H2, H3, H4, H5, H6, H7, H8, H9, H10, H11, H12, H13, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ unsaid := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget unsaid) (V m)) r ∧ r.2.sem = fun _ => 0) :=
  Pipeline.θ_run_frame_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What a run says of the arrays: the first two results as the steps left them, and the arguments as they were. -/
def Ends (r : PUnit × MemSt nD τ sig (Elt F)) (c : Dev nD) : Prop :=
  (r.2.mem ((cfg0.spec 9).arr.view.loc (c.tc : Thread nD τ)) = (dats m 0 c).arrAt 9 cfg0.N
    ∧ r.2.mem ((cfg0.spec 10).arr.view.loc (c.tc : Thread nD τ)) = (dats m 0 c).arrAt 10 cfg0.N)
  ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))

theorem run_main : θ_run defs (onTc (τ := τ) (main (F := F))) ⟨m, fun _ => 0, ρ⟩ (fun r => (∀ c : Dev nD, Ends m r c) ∧ r.2.sem = fun _ => 0) :=
  (θ_run defs _ _).mono (fun _ h => ⟨fun c => ⟨⟨((dats m 0 c).toRForget_arrAt_iff (fgt := unsaid) (w := 9) rfl _ _).mp ((h.1 c).1 9),
      ((dats m 0 c).toRForget_arrAt_iff (fgt := unsaid) (w := 10) rfl _ _).mp ((h.1 c).1 10)⟩,
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2, h.2⟩) (run_main m ρ)

end Cert.Kernel3Ideal.OutProj

end
-- ==== Proof.OutProj.lean ====
/- The value of the output projection's call: its updated rows are the reference's `x + [y_dn, y_cf] W_out`, the product over
   the concatenated rows being the sum of the two products over their halves, and its folded rows are the reference's
   normed rows, reshaped. -/
module

public import proofs.«01_k».proof.Proof.OutProjFrame
public import proofs.«01_k».proof.Proof.Gen.Reference3Ideal.Read

@[expose] public section

set_option maxRecDepth 16384

noncomputable section

namespace Cert.Kernel3Ideal.OutProj

open Cert.Kernel3Ideal Cert.Kernel3Ideal.Gen Idealize.ShloMosaic Idealize.ShloMosaic.TcCoe Idealize.SL.Sem
open Idealize.ShloMosaic.Pipeline (Dat)
open Cert.Reference3Ideal.Read

variable (m : (ℓ : Loc nD τ sig) → Buf (Elt Ideal) ℓ)

/-! ## The arguments -/

abbrev rowsOf (c : Dev nD) : FVec Ideal S32768x1024 .f32 := m ((c : Thread nD τ).loc main_arg0)
abbrev dnOf (c : Dev nD) : FVec Ideal S32768x512 .bf16 := m ((c : Thread nD τ).loc main_arg1)
abbrev cfOf (c : Dev nD) : FVec Ideal S32768x512 .bf16 := m ((c : Thread nD τ).loc main_arg2)
abbrev weightOf (c : Dev nD) : FVec Ideal S1024x1024 .f32 := m ((c : Thread nD τ).loc main_arg3)
abbrev gainOf (c : Dev nD) : FVec Ideal S1024 .f32 := m ((c : Thread nD τ).loc main_arg4)

/-- The index maps of the windows: tile `t` of the token arrays, the whole of each parameter. -/
theorem idx : ∀ t : Fin cfg0.N,
    win0_0.index t = ![t.val, 0] ∧ win0_1.index t = ![t.val, 0] ∧ win0_2.index t = ![t.val, 0] ∧ win0_3.index t = ![0, 0]
      ∧ win0_4.index t = ![0, 0] ∧ win0_5.index t = ![0, 0] ∧ win0_9.index t = ![t.val, 0] ∧ win0_10.index t = ![t.val, 0] :=
  (by decide +kernel : ∀ t : Fin grid0.N,
    win0_0.index t = ![t.val, 0] ∧ win0_1.index t = ![t.val, 0] ∧ win0_2.index t = ![t.val, 0] ∧ win0_3.index t = ![0, 0]
      ∧ win0_4.index t = ![0, 0] ∧ win0_5.index t = ![0, 0] ∧ win0_9.index t = ![t.val, 0] ∧ win0_10.index t = ![t.val, 0])

/-- Token `p` of tile `t`. -/
abbrev tok (t : Fin cfg0.N) (p : Fin 512) : Fin 32768 :=
  ⟨512 * t.val + p.val, by have : t.val < 64 := lt_of_lt_of_eq t.isLt N_0; omega⟩

/-! ## The operands the host prepares -/

/-- The weight's first 512 rows, for the recurrence's rows, -/
abbrev upperRows (w : FVec Ideal S1024x1024 .f32) : FVec Ideal S512x1024 .bf16 :=
  truncf .bf16 (extractStridedSlice S512x1024 ![0, 0] w slices_S1024x1024_S512x1024_0_0) bitsLt_bf16_f32
/-- and its last 512, for the convolution's. -/
abbrev lowerRows (w : FVec Ideal S1024x1024 .f32) : FVec Ideal S512x1024 .bf16 :=
  truncf .bf16 (extractStridedSlice S512x1024 ![512, 0] w slices_S1024x1024_S512x1024_512_0) bitsLt_bf16_f32

theorem V_upper (c : Dev nD) : V m c main_v7 = upperRows (weightOf m c) := by
  unfold V
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results

theorem V_lower (c : Dev nD) : V m c main_v9 = lowerRows (weightOf m c) := by
  unfold V
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results

theorem V_gain (c : Dev nD) : V m c main_v10 = broadcastInDim S1x1024 ![1] bcast_S1024_S1x1024_1 (gainOf m c) := by
  unfold V
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results

/-! ## The blocks at an index -/

theorem rows_at (c : Dev nD) (t : Fin cfg0.N) (p : Fin 512) (j : Fin 1024) :
    iblk m c 0 t (ix2 p j) = rowsOf m c (ix2 (tok t p) j) := by
  show V m c main_arg0 ((win0_0.blk t).view.emb (ix2 p j)) = _
  rw [V_main_arg0]
  blk_ext [idx t]

theorem dn_at (c : Dev nD) (t : Fin cfg0.N) (p k : Fin 512) :
    iblk m c 1 t (ix2 p k) = dnOf m c (ix2 (tok t p) k) := by
  show V m c main_arg1 ((win0_1.blk t).view.emb (ix2 p k)) = _
  rw [V_main_arg1]
  blk_ext [idx t]

theorem cf_at (c : Dev nD) (t : Fin cfg0.N) (p k : Fin 512) :
    iblk m c 2 t (ix2 p k) = cfOf m c (ix2 (tok t p) k) := by
  show V m c main_arg2 ((win0_2.blk t).view.emb (ix2 p k)) = _
  rw [V_main_arg2]
  blk_ext [idx t]

theorem upper_at (c : Dev nD) (t : Fin cfg0.N) (k : Fin 512) (j : Fin 1024) :
    iblk m c 3 t (ix2 k j) = weightOf m c (ix2 (k.castAdd 512 : Fin 1024) j) := by
  have he : (win0_3.blk t).view.emb (ix2 k j) = (ix2 k j : S512x1024.Idx) := by blk_ext [idx t]
  show V m c main_v7 ((win0_3.blk t).view.emb (ix2 k j)) = _
  rw [V_upper, he]
  pointwise
  blk_ext
  rfl

theorem lower_at (c : Dev nD) (t : Fin cfg0.N) (k : Fin 512) (j : Fin 1024) :
    iblk m c 4 t (ix2 k j) = weightOf m c (ix2 (k.natAdd 512 : Fin 1024) j) := by
  have he : (win0_4.blk t).view.emb (ix2 k j) = (ix2 k j : S512x1024.Idx) := by blk_ext [idx t]
  show V m c main_v9 ((win0_4.blk t).view.emb (ix2 k j)) = _
  rw [V_lower, he]
  pointwise
  blk_ext
  rfl

theorem gain_at (c : Dev nD) (t : Fin cfg0.N) (j : Fin 1024) :
    iblk m c 5 t (ix2 (0 : Fin 1) j) = gainOf m c (ix1 j) := by
  have he : (win0_5.blk t).view.emb (ix2 (0 : Fin 1) j) = (ix2 (0 : Fin 1) j : S1x1024.Idx) := by blk_ext [idx t]
  show V m c main_v10 ((win0_5.blk t).view.emb (ix2 (0 : Fin 1) j)) = _
  rw [V_gain, he]
  pointwise

/-! ## The updated rows -/

/-- A tile's updated row: the row, and the two products over 512. -/
theorem rows_cell (x : Vec Ideal S512x1024 .f32) (a b : Vec Ideal S512x512 .bf16) (u v : Vec Ideal S512x1024 .bf16) (p : Fin 512) (j : Fin 1024) :
    k0_pay2 x a u b v (ix2 p j)
      = (x (ix2 p j) + ∑ k : Fin 512, a (ix2 p k) * u (ix2 k j)) + ∑ k : Fin 512, b (ix2 p k) * v (ix2 k j) := by
  pointwise [k0_pay2]

/-- The concatenated row's first half, -/
theorem both_left (a b : FVec Ideal S32768x512 .bf16) (n : Fin 32768) (k : Fin 512) :
    val_main_v0 (F := Ideal) a b (ix2 n (k.castAdd 512 : Fin 1024)) = a (ix2 n k) := by
  unfold val_main_v0
  refine concatenate_pair_apply_left (s₁ := Cert.Reference3Ideal.S32768x512) (s₂ := Cert.Reference3Ideal.S32768x512)
    (t := Cert.Reference3Ideal.S32768x1024) 1 a b _ (ix2 n (k.castAdd 512 : Fin 1024)) rfl (ix2 n k) fun d => ?_
  match d with
  | ⟨0, _⟩ => rfl
  | ⟨1, _⟩ => rfl

/-- and its second. -/
theorem both_right (a b : FVec Ideal S32768x512 .bf16) (n : Fin 32768) (k : Fin 512) :
    val_main_v0 (F := Ideal) a b (ix2 n (k.natAdd 512 : Fin 1024)) = b (ix2 n k) := by
  unfold val_main_v0
  refine concatenate_pair_apply_right (s₁ := Cert.Reference3Ideal.S32768x512) (s₂ := Cert.Reference3Ideal.S32768x512)
    (t := Cert.Reference3Ideal.S32768x1024) 1 a b _ (ix2 n (k.natAdd 512 : Fin 1024)) rfl rfl (ix2 n k) (fun d hd => ?_) ?_
  · match d, hd with
    | ⟨0, _⟩, _ => rfl
    | ⟨1, _⟩, hd => exact absurd rfl hd
  · show k.val + 512 = 512 + k.val
    omega

/-- The reference's updated row, the product split at the concatenation. -/
theorem reference_row (x : FVec Ideal S32768x1024 .f32) (a b : FVec Ideal S32768x512 .bf16) (w : FVec Ideal S1024x1024 .f32)
    (n : Fin 32768) (j : Fin 1024) :
    val_main_v3 (F := Ideal) x a b w (ix2 n j)
      = (x (ix2 n j) + ∑ k : Fin 512, a (ix2 n k) * w (ix2 (k.castAdd 512 : Fin 1024) j))
        + ∑ k : Fin 512, b (ix2 n k) * w (ix2 (k.natAdd 512 : Fin 1024) j) := by
  rw [val_main_v3_apply, val_main_v2_apply]
  have e : ∀ k : Fin 1024, val_main_v1 (F := Ideal) a b (lidx_main_v2 (ix2 n j) k) * w (ridx_main_v2 (ix2 n j) k)
      = val_main_v0 (F := Ideal) a b (ix2 n k) * w (ix2 k j) := fun k => by
    have h1 : lidx_main_v2 (ix2 n j) k = ix2 n k := funext fun a => match a with
      | ⟨0, _⟩ => rfl
      | ⟨1, _⟩ => rfl
    have h2 : ridx_main_v2 (ix2 n j) k = ix2 k j := funext fun a => match a with
      | ⟨0, _⟩ => rfl
      | ⟨1, _⟩ => rfl
    rw [h1, h2]; rfl
  rw [Finset.sum_congr rfl fun k _ => e k]
  show x (ix2 n j) + _ = _
  rw [add_assoc]
  refine congrArg (x (ix2 n j) + ·) ((Fin.sum_univ_add (a := 512) (b := 512) _).trans (congrArg₂ (· + ·) ?_ ?_))
  · exact Finset.sum_congr rfl fun k _ => by rw [both_left]
  · exact Finset.sum_congr rfl fun k _ => by rw [both_right]

theorem row_at (c : Dev nD) (t : Fin cfg0.N) (p : Fin 512) (j : Fin 1024) :
    k0_pay2 (iblk m c 0 t) (iblk m c 1 t) (iblk m c 3 t) (iblk m c 2 t) (iblk m c 4 t) (ix2 p j)
      = val_main_v3 (F := Ideal) (rowsOf m c) (dnOf m c) (cfOf m c) (weightOf m c) (ix2 (tok t p) j) := by
  rw [rows_cell, reference_row]
  refine congrArg₂ (· + ·) (congrArg₂ (· + ·) (rows_at m c t p j) ?_) ?_
  · exact Finset.sum_congr rfl fun k _ => congrArg₂ (· * ·) (dn_at m c t p k) (upper_at m c t k j)
  · exact Finset.sum_congr rfl fun k _ => congrArg₂ (· * ·) (cf_at m c t p k) (lower_at m c t k j)

theorem final9 (c : Dev nD) : (dats m 0 c).arrAt 9 cfg0.N
    = val_main_v3 (F := Ideal) (rowsOf m c) (dnOf m c) (cfOf m c) (weightOf m c) := by
  refine (dats m 0 c).arrAt_eq_of_covers 9 _ (by decide +kernel) fun t _ y => ?_
  blk_simp
  rw [after0_9]
  refine (congrArg (rowsOut m c t) (show (y : S512x1024.Idx) = ix2 (y 0) (y 1) from funext fun a => match a with
    | ⟨0, _⟩ => rfl
    | ⟨1, _⟩ => rfl)).trans ((row_at m c t (y 0) (y 1)).trans (congrArg _ ?_))
  blk_ext [idx t]

/-! ## The normed rows -/

theorem normed_at (c : Dev nD) (t : Fin cfg0.N) (p : Fin 512) (j : Fin 1024) :
    normedOut m c t (ix2 p j)
      = val_main_v16 (F := Ideal) (rowsOf m c) (dnOf m c) (cfOf m c) (weightOf m c) (gainOf m c) (ix2 (tok t p) j) := by
  unfold normedOut
  pointwise [k0_pay3, val_main_v16, val_main_v15, val_main_v14, val_main_v13, val_main_v12, val_main_v11, val_main_v10, val_main_v9, val_main_v8,
    val_main_v7, val_main_v6, val_main_v5, val_main_v4, val_main_cst, val_main_cst_0, val_main_cst_1]
  simp only [row_at, gain_at]

theorem final10 (c : Dev nD) : (dats m 0 c).arrAt 10 cfg0.N
    = val_main_v17 (F := Ideal) (rowsOf m c) (dnOf m c) (cfOf m c) (weightOf m c) (gainOf m c) := by
  refine (dats m 0 c).arrAt_eq_of_covers 10 _ (by decide +kernel) fun t _ y => ?_
  blk_simp
  rw [after0_10, val_main_v17_apply]
  refine (normed_at m c t _ _).trans (congrArg _ ?_)
  have h0 : ((y : S4096x128.Idx) 0).val < 4096 := (y 0).isLt
  have h1 : ((y : S4096x128.Idx) 1).val < 128 := (y 1).isLt
  blk_ext [idx t]

end Cert.Kernel3Ideal.OutProj

end
-- ==== Proof.Conf.lean ====
/- The value of the Conformer's call. Every tile lays the gated rows in a buffer under the last 32 gated rows of the tile
   before it (zeros at a sequence's first tile), adds the 31 taps up from eight phases of that buffer, and normalizes the
   sum; at every row that is the reference's sum of the 31 shifted products over the padded sequence, normalized. -/
module

public import proofs.«01_k».proof.Proof.Gen.Kernel4Ideal.Value
public import proofs.«01_k».proof.Proof.Gen.Kernel4.Frame
public import proofs.«01_k».proof.Proof.Gen.Reference4Ideal.Read
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Kernel4Ideal.Conf

open Cert.Kernel4Ideal Cert.Kernel4Ideal.Gen Idealize.ShloMosaic Idealize.ShloMosaic.TcCoe Idealize.SL.Sem
open Idealize.ShloMosaic.Pipeline (Dat)
open Cert.Reference4Ideal.Read

variable (m : (ℓ : Loc nD τ sig) → Buf (Elt Ideal) ℓ)

/-! ## The sum and its normalization, of any buffer -/

/-- The taps of the last phase, added to the sum of the others. -/
abbrev lastPhase (a : FVec Ideal S512x512 .f32) (p q : FVec Ideal S520x512 .f32) (w₁ : Vec Ideal S1x512 .f32) (h₁ : Vec Ideal S520x512 .f32)
    (w₂ : Vec Ideal S1x512 .f32) (h₂ : Vec Ideal S520x512 .f32) : FVec Ideal S512x512 .f32 :=
  addf a (extractStridedSlice S512x512 ![7, 0]
    (addf (addf (addf p q) (mulf (broadcastTo S520x512 w₁ broadcasts_S1x512_S520x512) h₁))
      (mulf (broadcastTo S520x512 w₂ broadcasts_S1x512_S520x512) h₂)) slices_S520x512_o7_0_S512x512)

/-- A tile's sums: the bias, and the 31 taps over the buffer `H`, whose rows from 32 on are the tile's own gated rows `T`. -/
def tapSums (H : Vec Ideal S544x512 .f32) (T : Vec Ideal S512x512 .f32) (w : Vec Ideal S31x512 .f32) (b : Vec Ideal S1x512 .f32) :
    FVec Ideal S512x512 .f32 :=
  have a0 : FVec Ideal S512x512 .f32 := k0_pay5 (View.ld w (Rect.unit ![6, 0] ![1, 512] inb_S31x512_S1x512_6_0)) (View.ld H (Rect.unit ![8, 0] ![512, 512] inb_S544x512_S512x512_8_0))
      (View.ld w (Rect.unit ![14, 0] ![1, 512] inb_S31x512_S1x512_14_0)) (View.ld H (Rect.unit ![16, 0] ![512, 512] inb_S544x512_S512x512_16_0))
      (View.ld w (Rect.unit ![22, 0] ![1, 512] inb_S31x512_S1x512_22_0)) (View.ld H (Rect.unit ![24, 0] ![512, 512] inb_S544x512_S512x512_24_0))
  have a1 : FVec Ideal S512x512 .f32 := k0_pay6 (k0_pay4 b) a0 (View.ld w (Rect.unit ![30, 0] ![1, 512] inb_S31x512_S1x512_30_0)) T
      (View.ld w (Rect.unit ![7, 0] ![1, 512] inb_S31x512_S1x512_7_0)) (View.ld H (Rect.unit ![8, 0] ![520, 512] inb_S544x512_S520x512_8_0))
      (View.ld w (Rect.unit ![15, 0] ![1, 512] inb_S31x512_S1x512_15_0)) (View.ld H (Rect.unit ![16, 0] ![520, 512] inb_S544x512_S520x512_16_0))
      (View.ld w (Rect.unit ![23, 0] ![1, 512] inb_S31x512_S1x512_23_0)) (View.ld H (Rect.unit ![24, 0] ![520, 512] inb_S544x512_S520x512_24_0))
  have a2 : FVec Ideal S512x512 .f32 := k0_pay8 a1 (k0_pay7 (View.ld w (Rect.unit ![0, 0] ![1, 512] inb_S31x512_S1x512_0_0)) (View.ld H (Rect.unit ![0, 0] ![520, 512] inb_S544x512_S520x512_0_0))
      (View.ld w (Rect.unit ![8, 0] ![1, 512] inb_S31x512_S1x512_8_0)) (View.ld H (Rect.unit ![8, 0] ![520, 512] inb_S544x512_S520x512_8_0)))
      (View.ld w (Rect.unit ![16, 0] ![1, 512] inb_S31x512_S1x512_16_0)) (View.ld H (Rect.unit ![16, 0] ![520, 512] inb_S544x512_S520x512_16_0))
      (View.ld w (Rect.unit ![24, 0] ![1, 512] inb_S31x512_S1x512_24_0)) (View.ld H (Rect.unit ![24, 0] ![520, 512] inb_S544x512_S520x512_24_0))
      (View.ld w (Rect.unit ![1, 0] ![1, 512] inb_S31x512_S1x512_1_0)) (View.ld H (Rect.unit ![0, 0] ![520, 512] inb_S544x512_S520x512_0_0))
      (View.ld w (Rect.unit ![9, 0] ![1, 512] inb_S31x512_S1x512_9_0)) (View.ld H (Rect.unit ![8, 0] ![520, 512] inb_S544x512_S520x512_8_0))
      (View.ld w (Rect.unit ![17, 0] ![1, 512] inb_S31x512_S1x512_17_0)) (View.ld H (Rect.unit ![16, 0] ![520, 512] inb_S544x512_S520x512_16_0))
      (View.ld w (Rect.unit ![25, 0] ![1, 512] inb_S31x512_S1x512_25_0)) (View.ld H (Rect.unit ![24, 0] ![520, 512] inb_S544x512_S520x512_24_0))
  have a3 : FVec Ideal S512x512 .f32 := k0_pay10 a2 (View.ld H (Rect.unit ![0, 0] ![520, 512] inb_S544x512_S520x512_0_0)) (k0_pay9 (View.ld w (Rect.unit ![2, 0] ![1, 512] inb_S31x512_S1x512_2_0)))
      (View.ld w (Rect.unit ![10, 0] ![1, 512] inb_S31x512_S1x512_10_0)) (View.ld H (Rect.unit ![8, 0] ![520, 512] inb_S544x512_S520x512_8_0))
      (View.ld w (Rect.unit ![18, 0] ![1, 512] inb_S31x512_S1x512_18_0)) (View.ld H (Rect.unit ![16, 0] ![520, 512] inb_S544x512_S520x512_16_0))
      (View.ld w (Rect.unit ![26, 0] ![1, 512] inb_S31x512_S1x512_26_0)) (View.ld H (Rect.unit ![24, 0] ![520, 512] inb_S544x512_S520x512_24_0))
  have a4 : FVec Ideal S512x512 .f32 := k0_pay12 a3 (k0_pay11
      (View.ld w (Rect.unit ![3, 0] ![1, 512] inb_S31x512_S1x512_3_0)) (View.ld H (Rect.unit ![0, 0] ![520, 512] inb_S544x512_S520x512_0_0))
      (View.ld w (Rect.unit ![11, 0] ![1, 512] inb_S31x512_S1x512_11_0)) (View.ld H (Rect.unit ![8, 0] ![520, 512] inb_S544x512_S520x512_8_0))
      (View.ld w (Rect.unit ![19, 0] ![1, 512] inb_S31x512_S1x512_19_0)) (View.ld H (Rect.unit ![16, 0] ![520, 512] inb_S544x512_S520x512_16_0)))
      (View.ld w (Rect.unit ![27, 0] ![1, 512] inb_S31x512_S1x512_27_0)) (View.ld H (Rect.unit ![24, 0] ![520, 512] inb_S544x512_S520x512_24_0))
      (View.ld w (Rect.unit ![4, 0] ![1, 512] inb_S31x512_S1x512_4_0)) (View.ld H (Rect.unit ![0, 0] ![520, 512] inb_S544x512_S520x512_0_0))
      (View.ld w (Rect.unit ![12, 0] ![1, 512] inb_S31x512_S1x512_12_0)) (View.ld H (Rect.unit ![8, 0] ![520, 512] inb_S544x512_S520x512_8_0))
      (View.ld w (Rect.unit ![20, 0] ![1, 512] inb_S31x512_S1x512_20_0)) (View.ld H (Rect.unit ![16, 0] ![520, 512] inb_S544x512_S520x512_16_0))
      (View.ld w (Rect.unit ![28, 0] ![1, 512] inb_S31x512_S1x512_28_0)) (View.ld H (Rect.unit ![24, 0] ![520, 512] inb_S544x512_S520x512_24_0))
  lastPhase a4 (k0_pay13 (View.ld w (Rect.unit ![5, 0] ![1, 512] inb_S31x512_S1x512_5_0)) (View.ld H (Rect.unit ![0, 0] ![520, 512] inb_S544x512_S520x512_0_0)))
      (k0_pay14 (View.ld w (Rect.unit ![13, 0] ![1, 512] inb_S31x512_S1x512_13_0)) (View.ld H (Rect.unit ![8, 0] ![520, 512] inb_S544x512_S520x512_8_0)))
      (View.ld w (Rect.unit ![21, 0] ![1, 512] inb_S31x512_S1x512_21_0)) (View.ld H (Rect.unit ![16, 0] ![520, 512] inb_S544x512_S520x512_16_0))
      (View.ld w (Rect.unit ![29, 0] ![1, 512] inb_S31x512_S1x512_29_0)) (View.ld H (Rect.unit ![24, 0] ![520, 512] inb_S544x512_S520x512_24_0))

/-- Each row less its mean. -/
def centred (a : FVec Ideal S512x512 .f32) : FVec Ideal S512x512 .f32 :=
  subf a (broadcastTo S512x512 (divf (shapeCast S512x1 (multiReduction .add [1] S512 a 0x00000000#32 reduces_S512x512_S512 (.inl rfl) rfl)
    shapeCasts_S512_S512x1) (broadcast S512x1 (Scalar.ofBits .f32 0x44000000#32))) broadcasts_S512x1_S512x512)

/-- The rows normalized, under the gain. -/
def normedRows (a : FVec Ideal S512x512 .f32) (g : Vec Ideal S1x512 .f32) : FVec Ideal S512x512 .f32 :=
  mulf (mulf (centred a) (broadcastTo S512x512 (rsqrt (addf (divf (shapeCast S512x1
      (multiReduction .add [1] S512 (mulf (centred a) (centred a)) 0x00000000#32 reduces_S512x512_S512 (.inl rfl) rfl)
      shapeCasts_S512_S512x1) (broadcast S512x1 (Scalar.ofBits .f32 0x44000000#32)))
    (broadcast S512x1 (Scalar.ofBits .f32 0x358637BD#32)))) broadcasts_S512x1_S512x512))
  (broadcastTo S512x512 (shapeCast S1x512 g shapeCasts_S1x512_S1x512) broadcasts_S1x512_S512x512)

theorem pay16_eq (a : FVec Ideal S512x512 .f32) (p q : FVec Ideal S520x512 .f32) (w₁ : Vec Ideal S1x512 .f32) (h₁ : Vec Ideal S520x512 .f32)
    (w₂ : Vec Ideal S1x512 .f32) (h₂ : Vec Ideal S520x512 .f32) (g : Vec Ideal S1x512 .f32) :
    k0_pay16 a p q w₁ h₁ w₂ h₂ g = normedRows (lastPhase a p q w₁ h₁ w₂ h₂) g := rfl

/-! ## What the buffer holds -/

/-- The rows `z` over the rows `T`. -/
def stacked (z : Vec Ideal S32x512 .f32) (T : Vec Ideal S512x512 .f32) : Vec Ideal S544x512 .f32 := fun i =>
  if h : (i 0).val < 32 then z (ix2 (⟨(i 0).val, h⟩ : Fin 32) (i 1)) else
    T (ix2 (⟨(i 0).val - 32, by have : (i 0).val < 544 := (i 0).isLt; omega⟩ : Fin 512) (i 1))

theorem stacked_upper (z : Vec Ideal S32x512 .f32) (T : Vec Ideal S512x512 .f32) (r : ℕ) (h : r < 32) (l : Fin 512) :
    stacked z T (ix2 (⟨r, by omega⟩ : Fin 544) l) = z (ix2 ⟨r, h⟩ l) := dif_pos h

theorem stacked_lower (z : Vec Ideal S32x512 .f32) (T : Vec Ideal S512x512 .f32) (r : ℕ) (hr : r < 544) (h : 32 ≤ r) (l : Fin 512) :
    stacked z T (ix2 (⟨r, hr⟩ : Fin 544) l) = T (ix2 ⟨r - 32, by omega⟩ l) := dif_neg (by show ¬ r < 32; omega)

/-- The store of the tile's own rows, -/
abbrev lowPiece (T : Vec Ideal S512x512 .f32) : View.Piece (Elt Ideal) S544x512 .f32 :=
  ⟨Rect.unit ![32, 0] ![512, 512] inb_S544x512_S512x512_32_0, T⟩
/-- and the store of the rows above them. -/
abbrev topPiece (z : Vec Ideal S32x512 .f32) : View.Piece (Elt Ideal) S544x512 .f32 :=
  ⟨Rect.unit ![0, 0] ![32, 512] inb_S544x512_S32x512_0_0, z⟩

theorem cover (z : Vec Ideal S32x512 .f32) (T : Vec Ideal S512x512 .f32) : ∀ y : S544x512.Idx, ∃ p ∈ [lowPiece T, topPiece z], y ∈ p.1.set :=
  fun y => by
  have h0 : (y 0).val < 544 := (y 0).isLt
  have h1 : (y 1).val < 512 := (y 1).isLt
  by_cases h : (y 0).val < 32
  · refine ⟨topPiece z, List.mem_cons_of_mem _ List.mem_cons_self, (Rect.mem_set_unit (inb := inb_S544x512_S32x512_0_0)).mpr fun a => ?_⟩
    match a with
    | ⟨0, _⟩ => exact (show 0 ≤ (y 0).val ∧ (y 0).val < 0 + 32 by omega)
    | ⟨1, _⟩ => exact (show 0 ≤ (y 1).val ∧ (y 1).val < 0 + 512 by omega)
  · refine ⟨lowPiece T, List.mem_cons_self, (Rect.mem_set_unit (inb := inb_S544x512_S512x512_32_0)).mpr fun a => ?_⟩
    match a with
    | ⟨0, _⟩ => exact (show 32 ≤ (y 0).val ∧ (y 0).val < 32 + 512 by omega)
    | ⟨1, _⟩ => exact (show 0 ≤ (y 1).val ∧ (y 1).val < 0 + 512 by omega)

/-- The two stores leave the one part over the other. -/
theorem canon_stacked (z : Vec Ideal S32x512 .f32) (T : Vec Ideal S512x512 .f32) :
    View.canon [lowPiece T, topPiece z] = stacked z T := by
  funext y
  have hy := cover z T y
  canon_tiles x h using hy
  · unfold stacked
    rw [dif_neg (show ¬ (y 0).val < 32 by omega)]
    exact congrArg T (funext fun a => match a with
      | ⟨0, _⟩ => Fin.ext (by show (x 0).val = (y 0).val - 32; omega)
      | ⟨1, _⟩ => Fin.ext (by show (x 1).val = (y 1).val; omega))
  · unfold stacked
    rw [dif_pos (show (y 0).val < 32 by omega)]
    exact congrArg z (funext fun a => match a with
      | ⟨0, _⟩ => Fin.ext (by show (x 0).val = (y 0).val; omega)
      | ⟨1, _⟩ => Fin.ext (by show (x 1).val = (y 1).val; omega))

/-- The tile's own rows stored over what the point before left: its first 32 rows stay above them. -/
theorem writes_stacked (S : Vec Ideal S544x512 .f32) (T : Vec Ideal S512x512 .f32) :
    View.read (Elt Ideal) (View.whole cc0_scratch0)
        ((View.whole cc0_scratch0).writes (Elt Ideal) ((Memref.isWhole_whole cc0_scratch0).unread S) [lowPiece T])
      = stacked (fun i => S (ix2 ((i 0).castLE (by decide) : Fin 544) (i 1))) T := by
  funext y
  have hy : (y 0).val < 544 := (y 0).isLt
  refine (View.read_writes_cons_rows (d := S544x512.size) (off := ![32, 0]) (size := ![512, 512]) (o := 32) (W := 512) (View.whole cc0_scratch0)
    ((Memref.isWhole_whole cc0_scratch0).unread S) inb_S544x512_S512x512_32_0 T [] y rfl rfl rfl).trans ?_
  unfold stacked
  by_cases h : (y 0).val < 32
  · rw [dif_neg (by omega), dif_pos h]
    refine (congrFun (read_unread_whole cc0_scratch0 (Memref.isWhole_whole cc0_scratch0) S) y).trans (congrArg S (funext fun a => match a with
      | ⟨0, _⟩ => rfl
      | ⟨1, _⟩ => rfl))
  · rw [dif_pos ⟨by omega, by omega⟩, dif_neg h]
    exact congrArg T (funext fun a => match a with
      | ⟨0, _⟩ => Fin.ext rfl
      | ⟨1, _⟩ => Fin.ext (Nat.sub_zero _))

theorem out_A (c : Dev nD) (t : Fin cfg0.N) (h0 : t.val % 16 = 0) : (outsAt0 m c t.val t.isLt).1
    = k0_pay1 (normedRows (tapSums (stacked (k0_pay2 (F := Ideal)) (k0_pay3 (iblk m c 0 t))) (k0_pay3 (iblk m c 0 t))
        (iblk m c 1 t) (iblk m c 2 t)) (iblk m c 3 t)) (iblk m c 4 t) := by
  have e : ∀ r : Rect S544x512, (View.whole cc0_scratch0).readCov [lowPiece (k0_pay3 (iblk m c 0 t)), topPiece (k0_pay2 (F := Ideal))] r.toLoadRect
      = View.ld (stacked (k0_pay2 (F := Ideal)) (k0_pay3 (iblk m c 0 t))) r := fun r => by
    rw [View.readCov_eq_canon_ld _ _ _ (cover _ _), canon_stacked]
  rw [outsAt0_A m c t h0]
  dsimp only
  frame_out
  simp only [View.readCov_cons_toLoadRect]
  rw [pay16_eq]
  simp only [e]
  rfl

/-- What the buffer's first 32 rows hold after the point before. -/
abbrev carried (c : Dev nD) (t : Fin cfg0.N) : Vec Ideal S32x512 .f32 := fun i =>
  (outsAt0 m c (t.val - 1) (Nat.lt_of_le_of_lt (Nat.sub_le _ _) t.isLt)).2 (ix2 ((i 0).castLE (by decide) : Fin 544) (i 1))

theorem out_B (c : Dev nD) (t : Fin cfg0.N) (h0 : ¬ t.val % 16 = 0) : (outsAt0 m c t.val t.isLt).1
    = k0_pay1 (normedRows (tapSums (stacked (carried m c t) (k0_pay3 (iblk m c 0 t))) (k0_pay3 (iblk m c 0 t))
        (iblk m c 1 t) (iblk m c 2 t)) (iblk m c 3 t)) (iblk m c 4 t) := by
  have e := writes_stacked (outsAt0 m c (t.val - 1) (Nat.lt_of_le_of_lt (Nat.sub_le _ _) t.isLt)).2 (k0_pay3 (iblk m c 0 t))
  rw [outsAt0_B m c t h0]
  dsimp only
  frame_out
  simp only [View.readCov_cons_toLoadRect]
  rw [pay16_eq, e]
  rfl

/-- The copy that ends a point: the buffer's last 32 rows, the tile's last, become its first. -/
theorem copied (T : Vec Ideal S512x512 .f32) (L L' : List (View.Piece (Elt Ideal) S544x512 .f32)) (r : ℕ) (h : r < 32) (l : Fin 512) :
    View.canon (topPiece (k0_pay15 ((View.whole cc0_scratch0).readCov (lowPiece T :: L)
      (Rect.unit ![512, 0] ![32, 512] inb_S544x512_S32x512_512_0).toLoadRect)) :: L') (ix2 (⟨r, by omega⟩ : Fin 544) l)
      = T (ix2 (⟨480 + r, by omega⟩ : Fin 512) l) := by
  have e15 : ∀ v : Vec Ideal S32x512 .f32, k0_pay15 v (ix2 ⟨r, h⟩ l) = v (ix2 ⟨r, h⟩ l) := fun v => by pointwise [k0_pay15]
  have e : (ix2 (⟨r, by omega⟩ : Fin 544) l : S544x512.Idx)
      = (Rect.unit ![0, 0] ![32, 512] inb_S544x512_S32x512_0_0).emb (ix2 (⟨r, h⟩ : Fin 32) l : S32x512.Idx) := funext fun a => match a with
    | ⟨0, _⟩ => Fin.ext ((Rect.idx_unit_val ..).trans (Nat.zero_add _)).symm
    | ⟨1, _⟩ => Fin.ext ((Rect.idx_unit_val ..).trans (Nat.zero_add _)).symm
  have e₁ : (Rect.unit ![512, 0] ![32, 512] inb_S544x512_S32x512_512_0).idx (ix2 (⟨r, h⟩ : Fin 32) l : S32x512.Idx)
      = (ix2 (⟨512 + r, by omega⟩ : Fin 544) l : S544x512.Idx) := funext fun a => match a with
    | ⟨0, _⟩ => Fin.ext (Rect.idx_unit_val ..)
    | ⟨1, _⟩ => Fin.ext ((Rect.idx_unit_val ..).trans (Nat.zero_add _))
  have e₂ : (ix2 (⟨512 + r, by omega⟩ : Fin 544) l : S544x512.Idx)
      = (Rect.unit ![32, 0] ![512, 512] inb_S544x512_S512x512_32_0).emb (ix2 (⟨480 + r, by omega⟩ : Fin 512) l : S512x512.Idx) :=
    funext fun a => match a with
    | ⟨0, _⟩ => Fin.ext ((Rect.idx_unit_val ..).trans (show 32 + (480 + r) = 512 + r by omega)).symm
    | ⟨1, _⟩ => Fin.ext ((Rect.idx_unit_val ..).trans (Nat.zero_add _)).symm
  rw [e, View.canon_cons_emb]
  refine (e15 _).trans ?_
  rw [View.readCov_eq_canon']
  refine (congrArg (View.canon _) (e₁.trans e₂)).trans ?_
  exact View.canon_cons_emb _ _ _ _

/-- What a point leaves in the buffer's first 32 rows: its tile's last 32 gated rows. -/
theorem halo (c : Dev nD) (t : Fin cfg0.N) (r : ℕ) (h : r < 32) (l : Fin 512) :
    (outsAt0 m c t.val t.isLt).2 (ix2 (⟨r, by omega⟩ : Fin 544) l) = k0_pay3 (iblk m c 0 t) (ix2 (⟨480 + r, by omega⟩ : Fin 512) l) := by
  by_cases h0 : t.val % 16 = 0
  · rw [outsAt0_A m c t h0]
    dsimp only
    frame_out
    exact copied _ _ _ r h l
  · rw [outsAt0_B m c t h0]
    dsimp only
    frame_out
    exact copied _ _ _ r h l

/-! ## The sum at an index -/

/-- The 31 taps phase by phase are the 31 taps. -/
theorem phases (W X : ℕ → EReal) (β : EReal) :
    β + (W 6 * X 6 + W 14 * X 14 + W 22 * X 22 + W 30 * X 30) + (W 7 * X 7 + W 15 * X 15 + W 23 * X 23)
       + (W 0 * X 0 + W 8 * X 8 + W 16 * X 16 + W 24 * X 24) + (W 1 * X 1 + W 9 * X 9 + W 17 * X 17 + W 25 * X 25)
       + (W 2 * X 2 + W 10 * X 10 + W 18 * X 18 + W 26 * X 26) + (W 3 * X 3 + W 11 * X 11 + W 19 * X 19 + W 27 * X 27)
       + (W 4 * X 4 + W 12 * X 12 + W 20 * X 20 + W 28 * X 28) + (W 5 * X 5 + W 13 * X 13 + W 21 * X 21 + W 29 * X 29)
      = β + ∑ j ∈ Finset.range 31, W j * X j := by
  simp only [Finset.sum_range_succ, Finset.sum_range_zero, zero_add]
  ac_rfl

/-- The reference's chain of sums is their sum. -/
theorem chain (W X : ℕ → EReal) :
    X 0 * W 0 + X 1 * W 1 + X 2 * W 2 + X 3 * W 3 + X 4 * W 4 + X 5 * W 5 + X 6 * W 6 + X 7 * W 7 + X 8 * W 8 + X 9 * W 9 + X 10 * W 10
      + X 11 * W 11 + X 12 * W 12 + X 13 * W 13 + X 14 * W 14 + X 15 * W 15 + X 16 * W 16 + X 17 * W 17 + X 18 * W 18 + X 19 * W 19 + X 20 * W 20
      + X 21 * W 21 + X 22 * W 22 + X 23 * W 23 + X 24 * W 24 + X 25 * W 25 + X 26 * W 26 + X 27 * W 27 + X 28 * W 28 + X 29 * W 29 + X 30 * W 30
      = ∑ j ∈ Finset.range 31, W j * X j := by
  simp only [Finset.sum_range_succ, Finset.sum_range_zero, zero_add, mul_comm]

set_option maxHeartbeats 1000000 in
theorem tapSums_at (H : Vec Ideal S544x512 .f32) (T : Vec Ideal S512x512 .f32) (w : Vec Ideal S31x512 .f32) (b : Vec Ideal S1x512 .f32)
    (p l : Fin 512) (X : ℕ → EReal) (hH : ∀ k (hk : k < 31), H (ix2 (⟨2 + k + p.val, by omega⟩ : Fin 544) l) = X k) (hT : T (ix2 p l) = X 30) :
    tapSums H T w b (ix2 p l) = b (ix2 0 l) + ∑ j ∈ Finset.range 31, (w (ix2 (Fin.ofNat 31 j) l) : EReal) * X j := by
  have hr : ∀ r (h : r < 544), p.val + 2 ≤ r → r < p.val + 33 → H (ix2 (⟨r, h⟩ : Fin 544) l) = X (r - 2 - p.val) := fun r h h1 h2 => by
    rw [← hH (r - 2 - p.val) (by omega)]
    congr 3
    omega
  have e1 : ∀ a b, a + (b + p.val) - 2 - p.val = a + b - 2 := fun a b => by omega
  have e2 : ∀ a, a + p.val - 2 - p.val = a - 2 := fun a => by omega
  pointwise [tapSums, k0_pay4, k0_pay5, k0_pay6, k0_pay7, k0_pay8, k0_pay9, k0_pay10, k0_pay11, k0_pay12, k0_pay13, k0_pay14]
  simp (disch := omega) only [hr, hT]
  simp only [e1, e2, Nat.reduceAdd, Nat.reduceSub]
  exact phases (fun j => w (ix2 (Fin.ofNat 31 j) l)) X (b (ix2 0 l))

set_option maxHeartbeats 4000000 in
theorem reference_sum (u : FVec Ideal S32768x1024 .f32) (w : FVec Ideal S31x512 .f32) (s : Fin 4) (n : Fin 8192) (l : Fin 512) (X : ℕ → EReal)
    (hP : ∀ k (hk : k < 31), val_main_v10 (F := Ideal) u (ix3 s (⟨k + n.val, by omega⟩ : Fin 8222) l) = X k) :
    val_main_v226 (F := Ideal) u w (ix3 s n l) = ∑ j ∈ Finset.range 31, (w (ix2 (Fin.ofNat 31 j) l) : EReal) * X j := by
  have h0 : val_main_v10 (F := Ideal) u (ix3 s (⟨n.val, by omega⟩ : Fin 8222) l) = X 0 := by
    rw [← hP 0 (by decide)]
    congr 3
    omega
  pointwise [val_main_v11, val_main_v12, val_main_v13, val_main_v14, val_main_v15, val_main_v16, val_main_v17, val_main_v18, val_main_v19, val_main_v20,
    val_main_v21, val_main_v22, val_main_v23, val_main_v24, val_main_v25, val_main_v26, val_main_v27, val_main_v28, val_main_v29, val_main_v30,
    val_main_v31, val_main_v32, val_main_v33, val_main_v34, val_main_v35, val_main_v36, val_main_v37, val_main_v38, val_main_v39, val_main_v40,
    val_main_v41, val_main_v42, val_main_v43, val_main_v44, val_main_v45, val_main_v46, val_main_v47, val_main_v48, val_main_v49, val_main_v50,
    val_main_v51, val_main_v52, val_main_v53, val_main_v54, val_main_v55, val_main_v56, val_main_v57, val_main_v58, val_main_v59, val_main_v60,
    val_main_v61, val_main_v62, val_main_v63, val_main_v64, val_main_v65, val_main_v66, val_main_v67, val_main_v68, val_main_v69, val_main_v70,
    val_main_v71, val_main_v72, val_main_v73, val_main_v74, val_main_v75, val_main_v76, val_main_v77, val_main_v78, val_main_v79, val_main_v80,
    val_main_v81, val_main_v82, val_main_v83, val_main_v84, val_main_v85, val_main_v86, val_main_v87, val_main_v88, val_main_v89, val_main_v90,
    val_main_v91, val_main_v92, val_main_v93, val_main_v94, val_main_v95, val_main_v96, val_main_v97, val_main_v98, val_main_v99, val_main_v100,
    val_main_v101, val_main_v102, val_main_v103, val_main_v104, val_main_v105, val_main_v106, val_main_v107, val_main_v108, val_main_v109,
    val_main_v110, val_main_v111, val_main_v112, val_main_v113, val_main_v114, val_main_v115, val_main_v116, val_main_v117, val_main_v118,
    val_main_v119, val_main_v120, val_main_v121, val_main_v122, val_main_v123, val_main_v124, val_main_v125, val_main_v126, val_main_v127,
    val_main_v128, val_main_v129, val_main_v130, val_main_v131, val_main_v132, val_main_v133, val_main_v134, val_main_v135, val_main_v136,
    val_main_v137, val_main_v138, val_main_v139, val_main_v140, val_main_v141, val_main_v142, val_main_v143, val_main_v144, val_main_v145,
    val_main_v146, val_main_v147, val_main_v148, val_main_v149, val_main_v150, val_main_v151, val_main_v152, val_main_v153, val_main_v154,
    val_main_v155, val_main_v156, val_main_v157, val_main_v158, val_main_v159, val_main_v160, val_main_v161, val_main_v162, val_main_v163,
    val_main_v164, val_main_v165, val_main_v166, val_main_v167, val_main_v168, val_main_v169, val_main_v170, val_main_v171, val_main_v172,
    val_main_v173, val_main_v174, val_main_v175, val_main_v176, val_main_v177, val_main_v178, val_main_v179, val_main_v180, val_main_v181,
    val_main_v182, val_main_v183, val_main_v184, val_main_v185, val_main_v186, val_main_v187, val_main_v188, val_main_v189, val_main_v190,
    val_main_v191, val_main_v192, val_main_v193, val_main_v194, val_main_v195, val_main_v196, val_main_v197, val_main_v198, val_main_v199,
    val_main_v200, val_main_v201, val_main_v202, val_main_v203, val_main_v204, val_main_v205, val_main_v206, val_main_v207, val_main_v208,
    val_main_v209, val_main_v210, val_main_v211, val_main_v212, val_main_v213, val_main_v214, val_main_v215, val_main_v216, val_main_v217,
    val_main_v218, val_main_v219, val_main_v220, val_main_v221, val_main_v222, val_main_v223, val_main_v224, val_main_v225, val_main_v226]
  simp (disch := omega) only [h0, hP]
  exact chain (fun j => w (ix2 (Fin.ofNat 31 j) l)) X

/-- The gated row `n`. -/
def gated (u : FVec Ideal S32768x1024 .f32) (n : Fin 32768) (l : Fin 512) : Ideal .f32 :=
  u (ix2 n (⟨l.val, by omega⟩ : Fin 1024)) * Ideal.div 1 (1 + Ideal.exp (-u (ix2 n (⟨512 + l.val, by omega⟩ : Fin 1024))))

/-- The reference's padded sequence: 30 zeros, and the gated rows. -/
theorem padded_zero (u : FVec Ideal S32768x1024 .f32) (s : Fin 4) (r : Fin 8222) (l : Fin 512) (h : r.val < 30) :
    val_main_v10 (F := Ideal) u (ix3 s r l) = 0 := by
  pointwise [val_main_v0, val_main_v1, val_main_v2, val_main_v3, val_main_v4, val_main_cst, val_main_v5, val_main_v6, val_main_cst_0, val_main_v7, val_main_v8,
    val_main_v9, val_main_c, val_main_call0_v0, val_main_v10]
  rw [dif_neg (by omega)]
  show ((((0#32 : BitVec 32).toInt : ℝ)) : EReal) = 0
  simp

theorem padded_row (u : FVec Ideal S32768x1024 .f32) (s : Fin 4) (r : Fin 8222) (l : Fin 512) (h : 30 ≤ r.val) (n : Fin 32768)
    (hn : n.val = s.val * 8192 + (r.val - 30)) : val_main_v10 (F := Ideal) u (ix3 s r l) = gated u n l := by
  unfold gated
  obtain ⟨n, hn'⟩ := n
  subst hn
  pointwise [val_main_v0, val_main_v1, val_main_v2, val_main_v3, val_main_v4, val_main_cst, val_main_v5, val_main_v6, val_main_cst_0, val_main_v7, val_main_v8,
    val_main_v9, val_main_c, val_main_call0_v0, val_main_v10]
  rw [dif_pos ⟨h, by omega⟩]

theorem pay3_at (x : Vec Ideal S512x1024 .f32) (p l : Fin 512) :
    k0_pay3 x (ix2 p l) = x (ix2 p (⟨l.val, by omega⟩ : Fin 1024)) * Ideal.div 1 (1 + Ideal.exp (-x (ix2 p (⟨512 + l.val, by omega⟩ : Fin 1024)))) := by
  pointwise [k0_pay3]
  rw [zero_sub]

/-! ## The normalization at an index -/

theorem normed_at (a : FVec Ideal S512x512 .f32) (g be : Vec Ideal S1x512 .f32) (u : FVec Ideal S32768x1024 .f32) (w : FVec Ideal S31x512 .f32)
    (b γ β : FVec Ideal S512 .f32) (p : Fin 512) (s : Fin 4) (n : Fin 8192)
    (ha : ∀ l : Fin 512, a (ix2 p l) = val_main_v229 (F := Ideal) u w b (ix3 s n l))
    (hg : ∀ l : Fin 512, g (ix2 (0 : Fin 1) l) = γ (ix1 l)) (hb : ∀ l : Fin 512, be (ix2 (0 : Fin 1) l) = β (ix1 l)) (l : Fin 512) :
    k0_pay1 (normedRows a g) be (ix2 p l) = val_main_v254 (F := Ideal) u w b γ β (ix3 s n l) := by
  pointwise [k0_pay1, normedRows, centred, val_main_cst_1, val_main_v230, val_main_v231, val_main_cst_2, val_main_v232, val_main_v233, val_main_v234, val_main_v235, val_main_v236,
    val_main_cst_3, val_main_v237, val_main_v238, val_main_cst_4, val_main_v239, val_main_v240, val_main_v241, val_main_v242, val_main_cst_5,
    val_main_v243, val_main_v244, val_main_v245, val_main_v246, val_main_v247, val_main_v248, val_main_v249, val_main_v250, val_main_v251,
    val_main_v252, val_main_v253, val_main_call1_v0, val_main_call1_v1, val_main_call1_cst, val_main_call1_v2, val_main_call1_v3,
    val_main_call1_cst_0, val_main_call1_v4, val_main_call1_v5, val_main_v254]
  simp only [ha, hg, hb, zero_sub]

/-! ## The blocks at an index -/

abbrev wideOf (c : Dev nD) : FVec Ideal S32768x1024 .f32 := m ((c : Thread nD τ).loc main_arg0)
abbrev tapsOf (c : Dev nD) : FVec Ideal S31x512 .f32 := m ((c : Thread nD τ).loc main_arg1)
abbrev shiftOf (c : Dev nD) : FVec Ideal S512 .f32 := m ((c : Thread nD τ).loc main_arg2)
abbrev gainOf (c : Dev nD) : FVec Ideal S512 .f32 := m ((c : Thread nD τ).loc main_arg3)
abbrev offsetOf (c : Dev nD) : FVec Ideal S512 .f32 := m ((c : Thread nD τ).loc main_arg4)

/-- The index maps of the windows: tile `t` of the rows, the whole of each parameter. -/
theorem idx : ∀ t : Fin cfg0.N,
    win0_0.index t = ![t.val, 0] ∧ win0_1.index t = ![0, 0] ∧ win0_2.index t = ![0, 0] ∧ win0_3.index t = ![0, 0]
      ∧ win0_4.index t = ![0, 0] ∧ win0_5.index t = ![t.val, 0] :=
  (by decide +kernel : ∀ t : Fin grid0.N,
    win0_0.index t = ![t.val, 0] ∧ win0_1.index t = ![0, 0] ∧ win0_2.index t = ![0, 0] ∧ win0_3.index t = ![0, 0]
      ∧ win0_4.index t = ![0, 0] ∧ win0_5.index t = ![t.val, 0])

theorem lt64 (t : Fin cfg0.N) : t.val < 64 := lt_of_lt_of_eq t.isLt N_0

/-- Row `p` of tile `t`, -/
abbrev tok (t : Fin cfg0.N) (p : Fin 512) : Fin 32768 := ⟨512 * t.val + p.val, by have := lt64 t; omega⟩
/-- the sequence it belongs to, -/
abbrev seq (t : Fin cfg0.N) : Fin 4 := ⟨t.val / 16, by have := lt64 t; omega⟩
/-- and its place there. -/
abbrev place (t : Fin cfg0.N) (p : Fin 512) : Fin 8192 := ⟨512 * (t.val % 16) + p.val, by omega⟩

theorem V_shift (c : Dev nD) : V m c main_v0 = broadcastInDim S1x512 ![1] bcast_S512_S1x512_1 (shiftOf m c) := by
  unfold V
  simp only [hostOps0, List.flatten_cons, List.flatten_nil, List.append_nil, List.cons_append,
    List.nil_append, StableHlo.TRef.binary, StableHlo.TRef.unary, StableHlo.TRef.toBuf, StableHlo.TRef.ofBuf, cast_eq]
  after_results

theorem V_gain (c : Dev nD) : V m c main_v1 = broadcastInDim S1x512 ![1] bcast_S512_S1x512_1 (gainOf m c) := by
  unfold V
  simp only [hostOps0, List.flatten_cons, List.flatten_nil, List.append_nil, List.cons_append,
    List.nil_append, StableHlo.TRef.binary, StableHlo.TRef.unary, StableHlo.TRef.toBuf, StableHlo.TRef.ofBuf, cast_eq]
  after_results

theorem V_offset (c : Dev nD) : V m c main_v2 = broadcastInDim S1x512 ![1] bcast_S512_S1x512_1 (offsetOf m c) := by
  unfold V
  simp only [hostOps0, List.flatten_cons, List.flatten_nil, List.append_nil, List.cons_append,
    List.nil_append, StableHlo.TRef.binary, StableHlo.TRef.unary, StableHlo.TRef.toBuf, StableHlo.TRef.ofBuf, cast_eq]
  after_results

theorem wide_at (c : Dev nD) (t : Fin cfg0.N) (p : Fin 512) (j : Fin 1024) :
    iblk m c 0 t (ix2 p j) = wideOf m c (ix2 (tok t p) j) := by
  show V m c main_arg0 ((win0_0.blk t).view.emb (ix2 p j)) = _
  rw [V_main_arg0]
  blk_ext [idx t]

theorem taps_at (c : Dev nD) (t : Fin cfg0.N) (j : Fin 31) (l : Fin 512) :
    iblk m c 1 t (ix2 j l) = tapsOf m c (ix2 j l) := by
  show V m c main_arg1 ((win0_1.blk t).view.emb (ix2 j l)) = _
  rw [V_main_arg1]
  blk_ext [idx t]

theorem shift_at (c : Dev nD) (t : Fin cfg0.N) (l : Fin 512) : iblk m c 2 t (ix2 (0 : Fin 1) l) = shiftOf m c (ix1 l) := by
  have he : (win0_2.blk t).view.emb (ix2 (0 : Fin 1) l) = (ix2 (0 : Fin 1) l : S1x512.Idx) := by blk_ext [idx t]
  show V m c main_v0 ((win0_2.blk t).view.emb (ix2 (0 : Fin 1) l)) = _
  rw [V_shift, he]
  pointwise

theorem gain_at (c : Dev nD) (t : Fin cfg0.N) (l : Fin 512) : iblk m c 3 t (ix2 (0 : Fin 1) l) = gainOf m c (ix1 l) := by
  have he : (win0_3.blk t).view.emb (ix2 (0 : Fin 1) l) = (ix2 (0 : Fin 1) l : S1x512.Idx) := by blk_ext [idx t]
  show V m c main_v1 ((win0_3.blk t).view.emb (ix2 (0 : Fin 1) l)) = _
  rw [V_gain, he]
  pointwise

theorem offset_at (c : Dev nD) (t : Fin cfg0.N) (l : Fin 512) : iblk m c 4 t (ix2 (0 : Fin 1) l) = offsetOf m c (ix1 l) := by
  have he : (win0_4.blk t).view.emb (ix2 (0 : Fin 1) l) = (ix2 (0 : Fin 1) l : S1x512.Idx) := by blk_ext [idx t]
  show V m c main_v2 ((win0_4.blk t).view.emb (ix2 (0 : Fin 1) l)) = _
  rw [V_offset, he]
  pointwise

theorem gated_at (c : Dev nD) (t : Fin cfg0.N) (p l : Fin 512) : k0_pay3 (iblk m c 0 t) (ix2 p l) = gated (wideOf m c) (tok t p) l := by
  rw [pay3_at, wide_at, wide_at]
  rfl

/-! ## The buffer against the padded sequence -/

/-- The buffer, from its row 2 on, is the padded sequence from the tile's first row on, whatever lies in its first 32 rows being
    zeros at a sequence's first tile and the last rows of the tile before at another. -/
theorem buffer_at (c : Dev nD) (t : Fin cfg0.N) (z : Vec Ideal S32x512 .f32) (l : Fin 512)
    (hA : t.val % 16 = 0 → ∀ r (h : r < 32), z (ix2 (⟨r, h⟩ : Fin 32) l) = 0)
    (hB : t.val % 16 ≠ 0 → ∀ r (h : r < 32) (n : Fin 32768), n.val + 32 = 512 * t.val + r →
      z (ix2 (⟨r, h⟩ : Fin 32) l) = gated (wideOf m c) n l) (p : Fin 512) (k : ℕ) (hk : k < 31) :
    stacked z (k0_pay3 (iblk m c 0 t)) (ix2 (⟨2 + k + p.val, by omega⟩ : Fin 544) l)
      = val_main_v10 (F := Ideal) (wideOf m c) (ix3 (seq t) (⟨k + (place t p).val, by have := (place t p).isLt; omega⟩ : Fin 8222) l) := by
  have ht := lt64 t
  by_cases h : 2 + k + p.val < 32
  · rw [stacked_upper _ _ _ h]
    by_cases h0 : t.val % 16 = 0
    · rw [hA h0, padded_zero]
      show k + (512 * (t.val % 16) + p.val) < 30
      omega
    · have hn : 512 * t.val + (2 + k + p.val) - 32 < 32768 := by omega
      rw [hB h0 _ h ⟨_, hn⟩ (by show 512 * t.val + (2 + k + p.val) - 32 + 32 = _; omega)]
      refine (padded_row _ _ _ _ ?_ _ ?_).symm
      · show 30 ≤ k + (512 * (t.val % 16) + p.val)
        omega
      · show 512 * t.val + (2 + k + p.val) - 32 = t.val / 16 * 8192 + (k + (512 * (t.val % 16) + p.val) - 30)
        omega
  · rw [stacked_lower _ _ _ _ (by omega), gated_at]
    refine (padded_row _ _ _ _ ?_ _ ?_).symm
    · show 30 ≤ k + (512 * (t.val % 16) + p.val)
      omega
    · show 512 * t.val + (2 + k + p.val - 32) = t.val / 16 * 8192 + (k + (512 * (t.val % 16) + p.val) - 30)
      omega

/-- A tile's sums are the reference's, with the bias. -/
theorem sums_at (c : Dev nD) (t : Fin cfg0.N) (z : Vec Ideal S32x512 .f32)
    (hA : t.val % 16 = 0 → ∀ l r (h : r < 32), z (ix2 (⟨r, h⟩ : Fin 32) l) = 0)
    (hB : t.val % 16 ≠ 0 → ∀ l r (h : r < 32) (n : Fin 32768), n.val + 32 = 512 * t.val + r →
      z (ix2 (⟨r, h⟩ : Fin 32) l) = gated (wideOf m c) n l) (p l : Fin 512) :
    tapSums (stacked z (k0_pay3 (iblk m c 0 t))) (k0_pay3 (iblk m c 0 t)) (iblk m c 1 t) (iblk m c 2 t) (ix2 p l)
      = val_main_v229 (F := Ideal) (wideOf m c) (tapsOf m c) (shiftOf m c) (ix3 (seq t) (place t p) l) := by
  have hX : ∀ k (hk : k < 31), (fun k : ℕ => if hk : k < 31 then
      val_main_v10 (F := Ideal) (wideOf m c) (ix3 (seq t) (⟨k + (place t p).val, by have := (place t p).isLt; omega⟩ : Fin 8222) l) else 0) k
      = val_main_v10 (F := Ideal) (wideOf m c) (ix3 (seq t) (⟨k + (place t p).val, by have := (place t p).isLt; omega⟩ : Fin 8222) l) :=
    fun k hk => dif_pos hk
  have e229 : val_main_v229 (F := Ideal) (wideOf m c) (tapsOf m c) (shiftOf m c) (ix3 (seq t) (place t p) l)
      = val_main_v226 (F := Ideal) (wideOf m c) (tapsOf m c) (ix3 (seq t) (place t p) l) + shiftOf m c (ix1 l) := by
    pointwise [val_main_v227, val_main_v228, val_main_v229]
  have hb := buffer_at m c t z l (fun h r => hA h l r) (fun h r => hB h l r) p
  rw [e229, tapSums_at _ _ _ _ p l _ (fun k hk => (hb k hk).trans (hX k hk).symm)
      (((stacked_lower z (k0_pay3 (iblk m c 0 t)) (2 + 30 + p.val) (by omega) (by omega) l).trans
        (congrArg (fun q => k0_pay3 (iblk m c 0 t) (ix2 q l)) (Fin.ext (by show 2 + 30 + p.val - 32 = p.val; omega)))).symm.trans
        ((hb 30 (by decide)).trans (hX 30 (by decide)).symm)),
    reference_sum _ _ _ _ l _ (fun k hk => (hX k hk).symm), shift_at, add_comm]
  refine congrArg (· + shiftOf m c (ix1 l)) (Finset.sum_congr rfl fun j _ => ?_)
  rw [taps_at]

/-- What a point leaves in the output block, at an index: the reference's row. -/
theorem out_at (c : Dev nD) (t : Fin cfg0.N) (p l : Fin 512) : (outsAt0 m c t.val t.isLt).1 (ix2 p l)
    = val_main_v254 (F := Ideal) (wideOf m c) (tapsOf m c) (shiftOf m c) (gainOf m c) (offsetOf m c) (ix3 (seq t) (place t p) l) := by
  by_cases h0 : t.val % 16 = 0
  · rw [out_A m c t h0]
    exact normed_at _ _ _ _ _ _ _ _ p _ _ (fun l => sums_at m c t _ (fun _ l r h => by pointwise [k0_pay2]) (fun h => absurd h0 h) p l)
      (gain_at m c t) (offset_at m c t) l
  · rw [out_B m c t h0]
    refine normed_at _ _ _ _ _ _ _ _ p _ _ (fun l => sums_at m c t _ (fun h => absurd h h0) (fun _ l r h n hn => ?_) p l)
      (gain_at m c t) (offset_at m c t) l
    have ht := lt64 t
    refine (halo m c ⟨t.val - 1, Nat.lt_of_le_of_lt (Nat.sub_le _ _) t.isLt⟩ r h l).trans ?_
    rw [gated_at]
    refine congrArg (fun n => gated (wideOf m c) n l) (Fin.ext ?_)
    show 512 * (t.val - 1) + (480 + r) = n.val
    omega

theorem final5 (c : Dev nD) : (dats m 0 c).arrAt 5 cfg0.N
    = val_main_v256 (F := Ideal) (wideOf m c) (tapsOf m c) (shiftOf m c) (gainOf m c) (offsetOf m c) := by
  refine (dats m 0 c).arrAt_eq_of_covers 5 _ (by decide +kernel) fun t _ y => ?_
  blk_simp
  rw [after0_5]
  refine (congrArg (outsAt0 m c t.val t.isLt).1 (show (y : S512x512.Idx) = ix2 (y 0) (y 1) from funext fun a => match a with
    | ⟨0, _⟩ => rfl
    | ⟨1, _⟩ => rfl)).trans ((out_at m c t (y 0) (y 1)).trans ?_)
  have h0 : ((y : S512x512.Idx) 0).val < 512 := (y 0).isLt
  have h1 : ((y : S512x512.Idx) 1).val < 512 := (y 1).isLt
  have ht := lt64 t
  rw [val_main_v256_apply, val_main_v255_apply]
  refine congrArg _ ?_
  blk_ext [idx t]

end Cert.Kernel4Ideal.Conf
-- ==== Proof.lean ====
module

public import proofs.«01_k».proof.Defs
public import proofs.«01_k».proof.Proof.Gen.Kernel
public import proofs.«01_k».proof.Proof.Gen.Kernel.Frame
public import proofs.«01_k».proof.Proof.InProj
public import proofs.«01_k».proof.Proof.ExpertsValue
public import proofs.«01_k».proof.Proof.ExpertsBitsPlan
public import proofs.«01_k».proof.Proof.OutProj
public import proofs.«01_k».proof.Proof.OutProjBitsFrame
public import proofs.«01_k».proof.Proof.Conf
public import Idealize.ShloMosaic.Lib.Claim
public import Idealize.ShloMosaic.Adequacy
public import Idealize.ShloMosaic.Init

@[expose] public section

noncomputable section

namespace Cert.Proof

open Idealize.ShloMosaic Idealize.SL.Sem

/-- The input projection and its reference end with the same four arrays. -/
theorem algebraic_in_proj : Cert.algebraic_KernelIdeal_ReferenceIdeal := by
  pair_intro
  · run_from Cert.KernelIdeal.Gen.run_main m g
    · exact Cert.KernelIdeal.Gen.V_main_arg1 m c
    · exact Cert.KernelIdeal.Gen.V_main_arg2 m c
  · run_from Cert.ReferenceIdeal.Value.run m' g'
    · exact (Cert.KernelIdeal.InProj.final6 m c).symm
    · exact (Cert.KernelIdeal.InProj.final7 m c).symm
    · exact (Cert.KernelIdeal.InProj.final8 m c).symm
    · exact (Cert.KernelIdeal.InProj.final9 m c).symm

/-- The reference changes no argument, and it has no semaphore. -/
theorem frame_reference : Cert.quiescent_ReferenceIdeal := by
  intro m g _
  hlo_run
  · exact fun _ => ⟨trivial, trivial, trivial⟩
  · refine Idealize.ShloMosaic.sem_eq_zero_of_no_sems ?_ _
    decide

/-- The experts' frames, under the plan's side condition, which the precondition gives. -/
theorem frame_experts : Cert.quiescent_Kernel2 := fun m ρ h =>
  Cert.Kernel2.Experts.frame m ρ (Cert.Kernel2.Experts.ok_of_used m (Cert.Kernel2.Experts.used_of_pre (h 0) _))

theorem frame_experts_ideal : Cert.quiescent_Kernel2Ideal := fun m ρ h =>
  Cert.Kernel2Ideal.Experts.frame m ρ (Cert.Kernel2Ideal.Experts.ok_of_used m (Cert.Kernel2Ideal.Experts.used_of_pre (h 0) _))

theorem frame_experts_reference : Cert.quiescent_Reference2Ideal := by
  intro m g _
  hlo_run
  · exact fun _ => ⟨trivial, trivial, trivial, trivial, trivial⟩
  · refine Idealize.ShloMosaic.sem_eq_zero_of_no_sems ?_ _
    decide

/-- The experts' call and its reference end with the same array, where the plan has a used block. -/
theorem algebraic_experts : Cert.algebraic_Kernel2Ideal_Reference2Ideal := by
  pair_intro
  · run_from Cert.Kernel2Ideal.Experts.run_main m g (Cert.Kernel2Ideal.Experts.ok_of_used m
      (Cert.Kernel2Ideal.Experts.used_of_pre (hpre 0) _))
    · exact Cert.Kernel2Ideal.Experts.final4 m (by
        rw [Cert.Kernel2Ideal.Experts.tbl_used]; exact Cert.Kernel2Ideal.Experts.used_of_pre (hpre 0) _) _ c
    · exact (hc.2 Cert.Kernel2Ideal.main_arg0 (show _ ∈ Pipeline.restRefs Cert.Kernel2Ideal.sig Cert.Kernel2Ideal.spec0 by decide)).trans (Cert.Kernel2Ideal.Experts.V_main_arg0 m c)
  · refine θ_run_mono (Cert.Reference2Ideal.Value.run m' g') fun r h c => ?_
    obtain ⟨h0, h1⟩ := h c
    refine ⟨h0.trans ?_, h1⟩
    refine (Cert.Reference2Ideal.Read.val_main_v64_eq m' c).trans ?_
    rw [(hagree c).1, (hagree c).2.1, (hagree c).2.2.1, (hagree c).2.2.2.1, (hagree c).2.2.2.2]

theorem frame_out_proj_reference : Cert.quiescent_Reference3Ideal := by
  intro m g _
  hlo_run
  · exact fun _ => ⟨trivial, trivial, trivial, trivial, trivial, trivial, trivial, trivial, trivial⟩
  · refine Idealize.ShloMosaic.sem_eq_zero_of_no_sems ?_ _
    decide

/-- The output projection and its reference end with the same updated rows and the same normed rows. -/
theorem algebraic_out_proj : Cert.algebraic_Kernel3Ideal_Reference3Ideal := by
  intro m g m' g' hpre hagree
  refine ⟨fun c => Cert.Reference3Ideal.Read.val_main_v3 (F := Ideal) (Cert.Kernel3Ideal.OutProj.rowsOf m c)
      (Cert.Kernel3Ideal.OutProj.dnOf m c) (Cert.Kernel3Ideal.OutProj.cfOf m c) (Cert.Kernel3Ideal.OutProj.weightOf m c),
    fun c => Cert.Reference3Ideal.Read.val_main_v17 (F := Ideal) (Cert.Kernel3Ideal.OutProj.rowsOf m c)
      (Cert.Kernel3Ideal.OutProj.dnOf m c) (Cert.Kernel3Ideal.OutProj.cfOf m c) (Cert.Kernel3Ideal.OutProj.weightOf m c)
      (Cert.Kernel3Ideal.OutProj.gainOf m c), ?_, ?_⟩
  · refine θ_run_mono (Cert.Kernel3Ideal.OutProj.run_main m g) fun r h c => ?_
    obtain ⟨⟨h9, h10⟩, hargs⟩ := h.1 c
    exact ⟨h9.trans (Cert.Kernel3Ideal.OutProj.final9 m c), h10.trans (Cert.Kernel3Ideal.OutProj.final10 m c), hargs⟩
  · refine θ_run_mono (Cert.Reference3Ideal.Value.run m' g') fun r h c => ?_
    obtain ⟨h3, h17, hargs⟩ := h c
    obtain ⟨a0, a1, a2, a3, a4, _⟩ := hagree c
    refine ⟨h3.trans ((Cert.Reference3Ideal.Read.val_main_v3_eq _ _ _ _).trans ?_),
      h17.trans ((Cert.Reference3Ideal.Read.val_main_v17_eq _ _ _ _ _).trans ?_), hargs⟩
    · rw [a0, a1, a2, a3]
    · rw [a0, a1, a2, a3, a4]

theorem frame_conformer_reference : Cert.quiescent_Reference4Ideal := by
  intro m g _
  hlo_run
  · exact fun _ => ⟨trivial, trivial, trivial, trivial, trivial⟩
  · refine Idealize.ShloMosaic.sem_eq_zero_of_no_sems ?_ _
    decide

/-- The Conformer and its reference end with the same rows. -/
theorem algebraic_conformer : Cert.algebraic_Kernel4Ideal_Reference4Ideal := by
  intro m g m' g' hpre hagree
  refine ⟨fun c => Cert.Reference4Ideal.Read.val_main_v256 (F := Ideal) (Cert.Kernel4Ideal.Conf.wideOf m c)
      (Cert.Kernel4Ideal.Conf.tapsOf m c) (Cert.Kernel4Ideal.Conf.shiftOf m c) (Cert.Kernel4Ideal.Conf.gainOf m c)
      (Cert.Kernel4Ideal.Conf.offsetOf m c), ?_, ?_⟩
  · refine θ_run_mono (Cert.Kernel4Ideal.Value.run_blocks m g) fun r h c => ?_
    obtain ⟨h5, hargs⟩ := h c
    exact ⟨h5.trans (Cert.Kernel4Ideal.Conf.final5 m c), hargs⟩
  · refine θ_run_mono (Cert.Reference4Ideal.Value.run m' g') fun r h c => ?_
    obtain ⟨h256, hargs⟩ := h c
    obtain ⟨a0, a1, a2, a3, a4⟩ := hagree c
    refine ⟨h256.trans ((Cert.Reference4Ideal.Read.val_main_v256_eq _).trans ?_), hargs⟩
    show Cert.Reference4Ideal.Read.val_main_v256 (F := Ideal)
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
        (m' ((c.tc : Thread Cert.Reference4Ideal.nD Cert.Reference4Ideal.τ).loc Cert.Reference4Ideal.main_arg3))
        (m' ((c.tc : Thread Cert.Reference4Ideal.nD Cert.Reference4Ideal.τ).loc Cert.Reference4Ideal.main_arg4))
      = Cert.Reference4Ideal.Read.val_main_v256 (F := Ideal)
        (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg1))
        (m ((c.tc : Thread Cert.Kernel4Ideal.nD Cert.Kernel4Ideal.τ).loc Cert.Kernel4Ideal.main_arg2))
        (m ((c.tc : Thread Cert.Kernel4Ideal.nD Cert.Kernel4Ideal.τ).loc Cert.Kernel4Ideal.main_arg3))
        (m ((c.tc : Thread Cert.Kernel4Ideal.nD Cert.Kernel4Ideal.τ).loc Cert.Kernel4Ideal.main_arg4))
    rw [a0, a1, a2, a3, a4]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_some_slot_is_used.Gen.facts,
  fun m ρ _ => Cert.Kernel.Gen.frame m ρ, fun m ρ _ => Cert.KernelIdeal.Gen.frame m ρ, frame_reference,
  frame_experts, frame_experts_ideal, frame_experts_reference,
  fun m ρ _ => Cert.Kernel3.OutProj.frame m ρ, fun m ρ _ => Cert.Kernel3Ideal.OutProj.frame m ρ, frame_out_proj_reference,
  fun m ρ _ => Cert.Kernel4.Gen.frame m ρ, fun m ρ _ => Cert.Kernel4Ideal.Gen.frame m ρ, frame_conformer_reference,
  trivial, algebraic_in_proj, trivial, algebraic_experts, trivial, algebraic_out_proj, trivial, algebraic_conformer⟩

end Cert.Proof

end
